-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x768 .f32) (main_arg1 : FVec F S64x768 .f32) (main_arg2 : FVec F S64 .f32) (main_arg3 : FVec F S64x768 .f32) (main_arg4 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_v13 main_v16
-- ==== Kernel.lean ====
abbrev S32768x768 : Shape := ⟨2, ![32768, 768]⟩
abbrev S64x768 : Shape := ⟨2, ![64, 768]⟩
abbrev S64 : Shape := ⟨1, ![64]⟩
abbrev S64x32768 : Shape := ⟨2, ![64, 32768]⟩
abbrev S1x32768 : Shape := ⟨2, ![1, 32768]⟩
abbrev S2048x768 : Shape := ⟨2, ![2048, 768]⟩
abbrev S64x2048 : Shape := ⟨2, ![64, 2048]⟩
abbrev S1x2048 : Shape := ⟨2, ![1, 2048]⟩
abbrev S64x1 : Shape := ⟨2, ![64, 1]⟩
abbrev S2048 : Shape := ⟨1, ![2048]⟩
abbrev S32768x64 : Shape := ⟨2, ![32768, 64]⟩
abbrev S32768x1 : Shape := ⟨2, ![32768, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S64x768, .f32⟩
  | .hbm, ⟨4, _⟩ => ⟨S64, .f32⟩
  | .hbm, ⟨5, _⟩ => ⟨S64x32768, .f32⟩
  | .hbm, ⟨6, _⟩ => ⟨S1x32768, .i32⟩
  | .hbm, ⟨7, _⟩ => ⟨S32768x64, .f32⟩
  | .hbm, ⟨8, _⟩ => ⟨S32768x1, .i32⟩
  | .local _ .vmem, ⟨0, _⟩ => ⟨S2048x768, .f32⟩
  | .local _ .vmem, ⟨1, _⟩ => ⟨S2048x768, .f32⟩
  | .local _ .vmem, ⟨2, _⟩ => ⟨S64x768, .f32⟩
  | .local _ .vmem, ⟨3, _⟩ => ⟨S64, .f32⟩
  | .local _ .vmem, ⟨4, _⟩ => ⟨S64x768, .f32⟩
  | .local _ .vmem, ⟨5, _⟩ => ⟨S64, .f32⟩
  | .local _ .vmem, ⟨6, _⟩ => ⟨S64x2048, .f32⟩
  | .local _ .vmem, ⟨7, _⟩ => ⟨S64x2048, .f32⟩
  | .local _ .vmem, ⟨8, _⟩ => ⟨S1x2048, .i32⟩
  | .local _ .vmem, ⟨9, _⟩ => ⟨S1x2048, .i32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S1 : Shape := ⟨1, ![1]⟩
abbrev S2 : Shape := ⟨1, ![2]⟩
abbrev S1x1 : Shape := ⟨2, ![1, 1]⟩
abbrev S32768x1 : Shape := ⟨2, ![32768, 1]⟩
abbrev S32768 : Shape := ⟨1, ![32768]⟩
abbrev S32768x1x1 : Shape := ⟨3, ![32768, 1, 1]⟩
abbrev S32768x1x2 : Shape := ⟨3, ![32768, 1, 2]⟩

abbrev nBuf : Space → Nat
  | .hbm => 437
  | .vmem => 0
  | .smem => 0
  | _ => 0

abbrev hbmTy0_0 (i : Nat) : BufTy := match i % 128 with
  | 0 => ⟨S32768x768, .f32⟩
  | 1 => ⟨S64x768, .f32⟩
  | 2 => ⟨S64, .f32⟩
  | 3 => ⟨S64x768, .f32⟩
  | 4 => ⟨S64, .f32⟩
  | 5 => ⟨S768x64, .f32⟩
  | 6 => ⟨S32768x64, .f32⟩
  | 7 => ⟨S1x64, .f32⟩
  | 8 => ⟨S32768x64, .f32⟩
  | 9 => ⟨S32768x64, .f32⟩
  | 10 => ⟨S768x64, .f32⟩
  | 11 => ⟨S32768x64, .f32⟩
  | 12 => ⟨S1x64, .f32⟩
  | 13 => ⟨S32768x64, .f32⟩
  | 14 => ⟨S32768x64, .f32⟩
  | 15 => ⟨S_, .f32⟩
  | 16 => ⟨S32768x64, .f32⟩
  | 17 => ⟨S32768x64, .f32⟩
  | 18 => ⟨S32768x64, .f32⟩
  | 19 => ⟨S32768x64, .f32⟩
  | 20 => ⟨S32768x64, .i1⟩
  | 21 => ⟨S32768x64, .f32⟩
  | 22 => ⟨S32768x64, .f32⟩
  | 23 => ⟨S32768x64, .f32⟩
  | 24 => ⟨S32768x64, .f32⟩
  | 25 => ⟨S32768x64, .f32⟩
  | 26 => ⟨S32768x64, .f32⟩
  | 27 => ⟨S32768x64, .f32⟩
  | 28 => ⟨S32768x64, .f32⟩
  | 29 => ⟨S_, .i32⟩
  | 30 => ⟨S_, .i32⟩
  | 31 => ⟨S_, .i32⟩
  | 32 => ⟨S_, .i32⟩
  | 33 => ⟨S1, .i32⟩
  | 34 => ⟨S_, .i32⟩
  | 35 => ⟨S_, .i32⟩
  | 36 => ⟨S_, .i32⟩
  | 37 => ⟨S1, .i32⟩
  | 38 => ⟨S2, .i32⟩
  | 39 => ⟨S_, .f32⟩
  | 40 => ⟨S_, .f32⟩
  | 41 => ⟨S_, .f32⟩
  | 42 => ⟨S1x1, .f32⟩
  | 43 => ⟨S1x1, .f32⟩
  | 44 => ⟨S1, .i32⟩
  | 45 => ⟨S_, .i32⟩
  | 46 => ⟨S1, .i32⟩
  | 47 => ⟨S_, .i32⟩
  | 48 => ⟨S32768x64, .i64⟩
  | 49 => ⟨S32768x64, .i64⟩
  | 50 => ⟨S_, .i64⟩
  | 51 => ⟨S32768x64, .i64⟩
  | 52 => ⟨S32768x64, .i64⟩
  | 53 => ⟨S_, .i64⟩
  | 54 => ⟨S32768x64, .i64⟩
  | 55 => ⟨S32768x64, .i64⟩
  | 56 => ⟨S32768x64, .i64⟩
  | 57 => ⟨S_, .i64⟩
  | 58 => ⟨S32768x64, .i64⟩
  | 59 => ⟨S32768x64, .i64⟩
  | 60 => ⟨S32768x64, .i32⟩
  | 61 => ⟨S32768x64, .i32⟩
  | 62 => ⟨S_, .i32⟩
  | 63 => ⟨S_, .i32⟩
  | 64 => ⟨S_, .i32⟩
  | 65 => ⟨S32768x64, .i32⟩
  | 66 => ⟨S32768x64, .i32⟩
  | 67 => ⟨S32768x64, .i32⟩
  | 68 => ⟨S32768x64, .i32⟩
  | 69 => ⟨S32768x64, .i32⟩
  | 70 => ⟨S_, .i32⟩
  | 71 => ⟨S32768x64, .i32⟩
  | 72 => ⟨S32768x64, .i32⟩
  | 73 => ⟨S_, .i32⟩
  | 74 => ⟨S32768x64, .i32⟩
  | 75 => ⟨S32768x64, .i32⟩
  | 76 => ⟨S32768x64, .i32⟩
  | 77 => ⟨S32768x64, .i32⟩
  | 78 => ⟨S32768x64, .i32⟩
  | 79 => ⟨S_, .i32⟩
  | 80 => ⟨S32768x64, .i32⟩
  | 81 => ⟨S32768x64, .i32⟩
  | 82 => ⟨S_, .i32⟩
  | 83 => ⟨S32768x64, .i32⟩
  | 84 => ⟨S32768x64, .i32⟩
  | 85 => ⟨S32768x64, .i32⟩
  | 86 => ⟨S32768x64, .i32⟩
  | 87 => ⟨S32768x64, .i32⟩
  | 88 => ⟨S_, .i32⟩
  | 89 => ⟨S32768x64, .i32⟩
  | 90 => ⟨S32768x64, .i32⟩
  | 91 => ⟨S_, .i32⟩
  | 92 => ⟨S32768x64, .i32⟩
  | 93 => ⟨S32768x64, .i32⟩
  | 94 => ⟨S32768x64, .i32⟩
  | 95 => ⟨S32768x64, .i32⟩
  | 96 => ⟨S32768x64, .i32⟩
  | 97 => ⟨S_, .i32⟩
  | 98 => ⟨S32768x64, .i32⟩
  | 99 => ⟨S32768x64, .i32⟩
  | 100 => ⟨S_, .i32⟩
  | 101 => ⟨S32768x64, .i32⟩
  | 102 => ⟨S32768x64, .i32⟩
  | 103 => ⟨S32768x64, .i32⟩
  | 104 => ⟨S32768x64, .i32⟩
  | 105 => ⟨S32768x64, .i32⟩
  | 106 => ⟨S32768x64, .i32⟩
  | 107 => ⟨S32768x64, .i32⟩
  | 108 => ⟨S32768x64, .i32⟩
  | 109 => ⟨S_, .i32⟩
  | 110 => ⟨S32768x64, .i32⟩
  | 111 => ⟨S32768x64, .i32⟩
  | 112 => ⟨S32768x64, .i32⟩
  | 113 => ⟨S_, .i32⟩
  | 114 => ⟨S32768x64, .i32⟩
  | 115 => ⟨S32768x64, .i32⟩
  | 116 => ⟨S_, .i32⟩
  | 117 => ⟨S32768x64, .i32⟩
  | 118 => ⟨S32768x64, .i32⟩
  | 119 => ⟨S32768x64, .i32⟩
  | 120 => ⟨S32768x64, .i32⟩
  | 121 => ⟨S32768x64, .i32⟩
  | 122 => ⟨S_, .i32⟩
  | 123 => ⟨S32768x64, .i32⟩
  | 124 => ⟨S32768x64, .i32⟩
  | 125 => ⟨S_, .i32⟩
  | 126 => ⟨S32768x64, .i32⟩
  | 127 => ⟨S32768x64, .i32⟩
  | _ => ⟨S32768x768, .f32⟩

abbrev hbmTy0_1 (i : Nat) : BufTy := match i % 128 with
  | 0 => ⟨S32768x64, .i32⟩
  | 1 => ⟨S32768x64, .i32⟩
  | 2 => ⟨S32768x64, .i32⟩
  | 3 => ⟨S_, .i32⟩
  | 4 => ⟨S32768x64, .i32⟩
  | 5 => ⟨S32768x64, .i32⟩
  | 6 => ⟨S_, .i32⟩
  | 7 => ⟨S32768x64, .i32⟩
  | 8 => ⟨S32768x64, .i32⟩
  | 9 => ⟨S32768x64, .i32⟩
  | 10 => ⟨S32768x64, .i32⟩
  | 11 => ⟨S32768x64, .i32⟩
  | 12 => ⟨S_, .i32⟩
  | 13 => ⟨S32768x64, .i32⟩
  | 14 => ⟨S32768x64, .i32⟩
  | 15 => ⟨S_, .i32⟩
  | 16 => ⟨S32768x64, .i32⟩
  | 17 => ⟨S32768x64, .i32⟩
  | 18 => ⟨S32768x64, .i32⟩
  | 19 => ⟨S32768x64, .i32⟩
  | 20 => ⟨S32768x64, .i32⟩
  | 21 => ⟨S32768x64, .i32⟩
  | 22 => ⟨S32768x64, .i32⟩
  | 23 => ⟨S32768x64, .i32⟩
  | 24 => ⟨S_, .i32⟩
  | 25 => ⟨S32768x64, .i32⟩
  | 26 => ⟨S32768x64, .i32⟩
  | 27 => ⟨S32768x64, .i32⟩
  | 28 => ⟨S_, .i32⟩
  | 29 => ⟨S32768x64, .i32⟩
  | 30 => ⟨S32768x64, .i32⟩
  | 31 => ⟨S_, .i32⟩
  | 32 => ⟨S32768x64, .i32⟩
  | 33 => ⟨S32768x64, .i32⟩
  | 34 => ⟨S32768x64, .i32⟩
  | 35 => ⟨S32768x64, .i32⟩
  | 36 => ⟨S32768x64, .i32⟩
  | 37 => ⟨S_, .i32⟩
  | 38 => ⟨S32768x64, .i32⟩
  | 39 => ⟨S32768x64, .i32⟩
  | 40 => ⟨S_, .i32⟩
  | 41 => ⟨S32768x64, .i32⟩
  | 42 => ⟨S32768x64, .i32⟩
  | 43 => ⟨S32768x64, .i32⟩
  | 44 => ⟨S32768x64, .i32⟩
  | 45 => ⟨S32768x64, .i32⟩
  | 46 => ⟨S_, .i32⟩
  | 47 => ⟨S32768x64, .i32⟩
  | 48 => ⟨S32768x64, .i32⟩
  | 49 => ⟨S_, .i32⟩
  | 50 => ⟨S32768x64, .i32⟩
  | 51 => ⟨S32768x64, .i32⟩
  | 52 => ⟨S32768x64, .i32⟩
  | 53 => ⟨S32768x64, .i32⟩
  | 54 => ⟨S32768x64, .i32⟩
  | 55 => ⟨S_, .i32⟩
  | 56 => ⟨S32768x64, .i32⟩
  | 57 => ⟨S32768x64, .i32⟩
  | 58 => ⟨S_, .i32⟩
  | 59 => ⟨S32768x64, .i32⟩
  | 60 => ⟨S32768x64, .i32⟩
  | 61 => ⟨S32768x64, .i32⟩
  | 62 => ⟨S32768x64, .i32⟩
  | 63 => ⟨S32768x64, .i32⟩
  | 64 => ⟨S32768x64, .i32⟩
  | 65 => ⟨S32768x64, .i32⟩
  | 66 => ⟨S32768x64, .i32⟩
  | 67 => ⟨S_, .i32⟩
  | 68 => ⟨S32768x64, .i32⟩
  | 69 => ⟨S32768x64, .i32⟩
  | 70 => ⟨S32768x64, .i32⟩
  | 71 => ⟨S_, .i32⟩
  | 72 => ⟨S32768x64, .i32⟩
  | 73 => ⟨S32768x64, .i32⟩
  | 74 => ⟨S_, .i32⟩
  | 75 => ⟨S32768x64, .i32⟩
  | 76 => ⟨S32768x64, .i32⟩
  | 77 => ⟨S32768x64, .i32⟩
  | 78 => ⟨S32768x64, .i32⟩
  | 79 => ⟨S32768x64, .i32⟩
  | 80 => ⟨S_, .i32⟩
  | 81 => ⟨S32768x64, .i32⟩
  | 82 => ⟨S32768x64, .i32⟩
  | 83 => ⟨S_, .i32⟩
  | 84 => ⟨S32768x64, .i32⟩
  | 85 => ⟨S32768x64, .i32⟩
  | 86 => ⟨S32768x64, .i32⟩
  | 87 => ⟨S32768x64, .i32⟩
  | 88 => ⟨S32768x64, .i32⟩
  | 89 => ⟨S_, .i32⟩
  | 90 => ⟨S32768x64, .i32⟩
  | 91 => ⟨S32768x64, .i32⟩
  | 92 => ⟨S_, .i32⟩
  | 93 => ⟨S32768x64, .i32⟩
  | 94 => ⟨S32768x64, .i32⟩
  | 95 => ⟨S32768x64, .i32⟩
  | 96 => ⟨S32768x64, .i32⟩
  | 97 => ⟨S32768x64, .i32⟩
  | 98 => ⟨S_, .i32⟩
  | 99 => ⟨S32768x64, .i32⟩
  | 100 => ⟨S32768x64, .i32⟩
  | 101 => ⟨S_, .i32⟩
  | 102 => ⟨S32768x64, .i32⟩
  | 103 => ⟨S32768x64, .i32⟩
  | 104 => ⟨S32768x64, .i32⟩
  | 105 => ⟨S32768x64, .i32⟩
  | 106 => ⟨S32768x64, .i32⟩
  | 107 => ⟨S32768x64, .i32⟩
  | 108 => ⟨S32768x64, .i32⟩
  | 109 => ⟨S32768x64, .i32⟩
  | 110 => ⟨S_, .i32⟩
  | 111 => ⟨S32768x64, .i32⟩
  | 112 => ⟨S32768x64, .i32⟩
  | 113 => ⟨S32768x64, .i32⟩
  | 114 => ⟨S_, .i32⟩
  | 115 => ⟨S32768x64, .i32⟩
  | 116 => ⟨S32768x64, .i32⟩
  | 117 => ⟨S_, .i32⟩
  | 118 => ⟨S32768x64, .i32⟩
  | 119 => ⟨S32768x64, .i32⟩
  | 120 => ⟨S32768x64, .i32⟩
  | 121 => ⟨S32768x64, .i32⟩
  | 122 => ⟨S32768x64, .i32⟩
  | 123 => ⟨S_, .i32⟩
  | 124 => ⟨S32768x64, .i32⟩
  | 125 => ⟨S32768x64, .i32⟩
  | 126 => ⟨S_, .i32⟩
  | 127 => ⟨S32768x64, .i32⟩
  | _ => ⟨S32768x768, .f32⟩

abbrev hbmTy0_2 (i : Nat) : BufTy := match i % 128 with
  | 0 => ⟨S32768x64, .i32⟩
  | 1 => ⟨S32768x64, .i32⟩
  | 2 => ⟨S32768x64, .i32⟩
  | 3 => ⟨S32768x64, .i32⟩
  | 4 => ⟨S_, .i32⟩
  | 5 => ⟨S32768x64, .i32⟩
  | 6 => ⟨S32768x64, .i32⟩
  | 7 => ⟨S_, .i32⟩
  | 8 => ⟨S32768x64, .i32⟩
  | 9 => ⟨S32768x64, .i32⟩
  | 10 => ⟨S32768x64, .i32⟩
  | 11 => ⟨S32768x64, .i32⟩
  | 12 => ⟨S32768x64, .i32⟩
  | 13 => ⟨S_, .i32⟩
  | 14 => ⟨S32768x64, .i32⟩
  | 15 => ⟨S32768x64, .i32⟩
  | 16 => ⟨S_, .i32⟩
  | 17 => ⟨S32768x64, .i32⟩
  | 18 => ⟨S32768x64, .i32⟩
  | 19 => ⟨S32768x64, .i32⟩
  | 20 => ⟨S32768x64, .i32⟩
  | 21 => ⟨S32768x64, .i32⟩
  | 22 => ⟨S32768x64, .i32⟩
  | 23 => ⟨S32768x64, .i32⟩
  | 24 => ⟨S32768x64, .i32⟩
  | 25 => ⟨S_, .i32⟩
  | 26 => ⟨S32768x64, .i32⟩
  | 27 => ⟨S32768x64, .i32⟩
  | 28 => ⟨S32768x64, .i32⟩
  | 29 => ⟨S_, .i32⟩
  | 30 => ⟨S32768x64, .i32⟩
  | 31 => ⟨S32768x64, .i32⟩
  | 32 => ⟨S_, .i32⟩
  | 33 => ⟨S32768x64, .i32⟩
  | 34 => ⟨S32768x64, .i32⟩
  | 35 => ⟨S32768x64, .f32⟩
  | 36 => ⟨S_, .f32⟩
  | 37 => ⟨S32768x64, .f32⟩
  | 38 => ⟨S32768x64, .f32⟩
  | 39 => ⟨S1x1, .f32⟩
  | 40 => ⟨S32768x64, .f32⟩
  | 41 => ⟨S32768x64, .f32⟩
  | 42 => ⟨S32768x64, .f32⟩
  | 43 => ⟨S32768x64, .f32⟩
  | 44 => ⟨S32768x64, .f32⟩
  | 45 => ⟨S32768x64, .f32⟩
  | 46 => ⟨S32768x64, .f32⟩
  | 47 => ⟨S32768x64, .f32⟩
  | 48 => ⟨S32768x64, .f32⟩
  | 49 => ⟨S32768x64, .f32⟩
  | 50 => ⟨S_, .f32⟩
  | 51 => ⟨S32768x64, .f32⟩
  | 52 => ⟨S32768x64, .i1⟩
  | 53 => ⟨S_, .f32⟩
  | 54 => ⟨S32768x64, .f32⟩
  | 55 => ⟨S32768x64, .f32⟩
  | 56 => ⟨S_, .f32⟩
  | 57 => ⟨S32768x64, .f32⟩
  | 58 => ⟨S32768x64, .f32⟩
  | 59 => ⟨S_, .f32⟩
  | 60 => ⟨S32768x64, .f32⟩
  | 61 => ⟨S32768x64, .f32⟩
  | 62 => ⟨S32768x64, .f32⟩
  | 63 => ⟨S_, .f32⟩
  | 64 => ⟨S32768x64, .f32⟩
  | 65 => ⟨S32768x64, .f32⟩
  | 66 => ⟨S32768x64, .f32⟩
  | 67 => ⟨S_, .f32⟩
  | 68 => ⟨S32768x64, .f32⟩
  | 69 => ⟨S32768x64, .f32⟩
  | 70 => ⟨S32768x64, .f32⟩
  | 71 => ⟨S_, .f32⟩
  | 72 => ⟨S32768x64, .f32⟩
  | 73 => ⟨S32768x64, .f32⟩
  | 74 => ⟨S32768x64, .f32⟩
  | 75 => ⟨S_, .f32⟩
  | 76 => ⟨S32768x64, .f32⟩
  | 77 => ⟨S32768x64, .f32⟩
  | 78 => ⟨S32768x64, .f32⟩
  | 79 => ⟨S_, .f32⟩
  | 80 => ⟨S32768x64, .f32⟩
  | 81 => ⟨S32768x64, .f32⟩
  | 82 => ⟨S32768x64, .f32⟩
  | 83 => ⟨S_, .f32⟩
  | 84 => ⟨S32768x64, .f32⟩
  | 85 => ⟨S32768x64, .f32⟩
  | 86 => ⟨S32768x64, .f32⟩
  | 87 => ⟨S_, .f32⟩
  | 88 => ⟨S32768x64, .f32⟩
  | 89 => ⟨S32768x64, .f32⟩
  | 90 => ⟨S32768x64, .f32⟩
  | 91 => ⟨S_, .f32⟩
  | 92 => ⟨S32768x64, .f32⟩
  | 93 => ⟨S32768x64, .f32⟩
  | 94 => ⟨S_, .f32⟩
  | 95 => ⟨S32768x64, .f32⟩
  | 96 => ⟨S32768x64, .f32⟩
  | 97 => ⟨S_, .f32⟩
  | 98 => ⟨S32768x64, .f32⟩
  | 99 => ⟨S32768x64, .f32⟩
  | 100 => ⟨S32768x64, .f32⟩
  | 101 => ⟨S_, .f32⟩
  | 102 => ⟨S32768x64, .f32⟩
  | 103 => ⟨S32768x64, .f32⟩
  | 104 => ⟨S32768x64, .f32⟩
  | 105 => ⟨S_, .f32⟩
  | 106 => ⟨S32768x64, .f32⟩
  | 107 => ⟨S32768x64, .f32⟩
  | 108 => ⟨S32768x64, .f32⟩
  | 109 => ⟨S_, .f32⟩
  | 110 => ⟨S32768x64, .f32⟩
  | 111 => ⟨S32768x64, .f32⟩
  | 112 => ⟨S32768x64, .f32⟩
  | 113 => ⟨S_, .f32⟩
  | 114 => ⟨S32768x64, .f32⟩
  | 115 => ⟨S32768x64, .f32⟩
  | 116 => ⟨S32768x64, .f32⟩
  | 117 => ⟨S_, .f32⟩
  | 118 => ⟨S32768x64, .f32⟩
  | 119 => ⟨S32768x64, .f32⟩
  | 120 => ⟨S32768x64, .f32⟩
  | 121 => ⟨S_, .f32⟩
  | 122 => ⟨S32768x64, .f32⟩
  | 123 => ⟨S32768x64, .f32⟩
  | 124 => ⟨S32768x64, .f32⟩
  | 125 => ⟨S_, .f32⟩
  | 126 => ⟨S32768x64, .f32⟩
  | 127 => ⟨S32768x64, .f32⟩
  | _ => ⟨S32768x768, .f32⟩

abbrev hbmTy0_3 (i : Nat) : BufTy := match i % 128 with
  | 0 => ⟨S32768x64, .f32⟩
  | 1 => ⟨S32768x64, .f32⟩
  | 2 => ⟨S_, .f32⟩
  | 3 => ⟨S32768x64, .f32⟩
  | 4 => ⟨S32768x64, .i1⟩
  | 5 => ⟨S_, .f32⟩
  | 6 => ⟨S32768x64, .f32⟩
  | 7 => ⟨S32768x64, .f32⟩
  | 8 => ⟨S32768x64, .f32⟩
  | 9 => ⟨S32768x64, .f32⟩
  | 10 => ⟨S_, .f32⟩
  | 11 => ⟨S32768x64, .f32⟩
  | 12 => ⟨S32768x64, .f32⟩
  | 13 => ⟨S32768x64, .f32⟩
  | 14 => ⟨S32768x64, .f32⟩
  | 15 => ⟨S32768x1, .f32⟩
  | 16 => ⟨S32768x1, .i32⟩
  | 17 => ⟨S32768, .i32⟩
  | 18 => ⟨S32768x1, .i32⟩
  | 19 => ⟨S_, .f32⟩
  | 20 => ⟨S32768x64, .f32⟩
  | 21 => ⟨S_, .i32⟩
  | 22 => ⟨S32768x1, .i32⟩
  | 23 => ⟨S32768x1, .i1⟩
  | 24 => ⟨S_, .i32⟩
  | 25 => ⟨S32768x1, .i32⟩
  | 26 => ⟨S32768x1, .i32⟩
  | 27 => ⟨S32768x1, .i32⟩
  | 28 => ⟨S_, .i32⟩
  | 29 => ⟨S32768x1, .i32⟩
  | 30 => ⟨S32768x1, .i1⟩
  | 31 => ⟨S_, .i32⟩
  | 32 => ⟨S32768x1, .i32⟩
  | 33 => ⟨S32768x1, .i32⟩
  | 34 => ⟨S32768x1, .i32⟩
  | 35 => ⟨S32768x1x1, .i32⟩
  | 36 => ⟨S32768x1x1, .i32⟩
  | 37 => ⟨S32768x1x2, .i32⟩
  | 38 => ⟨S32768x64, .f32⟩
  | 39 => ⟨S_, .f32⟩
  | 40 => ⟨S32768, .f32⟩
  | 41 => ⟨S_, .f32⟩
  | 42 => ⟨S32768, .f32⟩
  | 43 => ⟨S32768, .f32⟩
  | 44 => ⟨S32768x1, .f32⟩
  | 45 => ⟨S32768x64, .f32⟩
  | 46 => ⟨S32768x64, .f32⟩
  | 47 => ⟨S32768x64, .f32⟩
  | 48 => ⟨S_, .f32⟩
  | 49 => ⟨S32768, .f32⟩
  | 50 => ⟨S32768x1, .f32⟩
  | 51 => ⟨S32768x64, .f32⟩
  | 52 => ⟨S32768x64, .f32⟩
  | _ => ⟨S32768x768, .f32⟩

abbrev hbmTy (i : Nat) : BufTy := match i / 128 with
  | 0 => hbmTy0_0 i
  | 1 => hbmTy0_1 i
  | 2 => hbmTy0_2 i
  | 3 => hbmTy0_3 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10 : Ref sig .tc := ⟨.hbm, 28, rfl⟩
abbrev main_c : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_c_0 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_c_1 : Ref sig .tc := ⟨.hbm, 57, rfl⟩
abbrev main_call1_v14 : Ref sig .tc := ⟨.hbm, 58, rfl⟩
abbrev main_call1_v15 : Ref sig .tc := ⟨.hbm, 59, rfl⟩
abbrev main_call1_v16 : Ref sig .tc := ⟨.hbm, 60, rfl⟩
abbrev main_call1_v17 : Ref sig .tc := ⟨.hbm, 61, rfl⟩
abbrev main_call1_call0_v0 : Ref sig .tc := ⟨.hbm, 62, rfl⟩
abbrev main_call1_call0_c : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_c_0 : Ref sig .tc := ⟨.hbm, 70, rfl⟩
abbrev main_call1_call0_v7 : Ref sig .tc := ⟨.hbm, 71, rfl⟩
abbrev main_call1_call0_v8 : Ref sig .tc := ⟨.hbm, 72, rfl⟩
abbrev main_call1_call0_c_1 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_call0_v12 : Ref sig .tc := ⟨.hbm, 77, rfl⟩
abbrev main_call1_call0_v13 : Ref sig .tc := ⟨.hbm, 78, rfl⟩
abbrev main_call1_call0_c_2 : Ref sig .tc := ⟨.hbm, 79, rfl⟩
abbrev main_call1_call0_v14 : Ref sig .tc := ⟨.hbm, 80, rfl⟩
abbrev main_call1_call0_v15 : Ref sig .tc := ⟨.hbm, 81, rfl⟩
abbrev main_call1_call0_c_3 : Ref sig .tc := ⟨.hbm, 82, rfl⟩
abbrev main_call1_call0_v16 : Ref sig .tc := ⟨.hbm, 83, rfl⟩
abbrev main_call1_call0_v17 : Ref sig .tc := ⟨.hbm, 84, rfl⟩
abbrev main_call1_call0_v18 : Ref sig .tc := ⟨.hbm, 85, rfl⟩
abbrev main_call1_call0_v19 : Ref sig .tc := ⟨.hbm, 86, rfl⟩
abbrev main_call1_call0_v20 : Ref sig .tc := ⟨.hbm, 87, rfl⟩
abbrev main_call1_call0_c_4 : Ref sig .tc := ⟨.hbm, 88, rfl⟩
abbrev main_call1_call0_v21 : Ref sig .tc := ⟨.hbm, 89, rfl⟩
abbrev main_call1_call0_v22 : Ref sig .tc := ⟨.hbm, 90, rfl⟩
abbrev main_call1_call0_c_5 : Ref sig .tc := ⟨.hbm, 91, rfl⟩
abbrev main_call1_call0_v23 : Ref sig .tc := ⟨.hbm, 92, rfl⟩
abbrev main_call1_call0_v24 : Ref sig .tc := ⟨.hbm, 93, rfl⟩
abbrev main_call1_call0_v25 : Ref sig .tc := ⟨.hbm, 94, rfl⟩
abbrev main_call1_call0_v26 : Ref sig .tc := ⟨.hbm, 95, rfl⟩
abbrev main_call1_call0_v27 : Ref sig .tc := ⟨.hbm, 96, rfl⟩
abbrev main_call1_call0_c_6 : Ref sig .tc := ⟨.hbm, 97, rfl⟩
abbrev main_call1_call0_v28 : Ref sig .tc := ⟨.hbm, 98, rfl⟩
abbrev main_call1_call0_v29 : Ref sig .tc := ⟨.hbm, 99, rfl⟩
abbrev main_call1_call0_c_7 : Ref sig .tc := ⟨.hbm, 100, rfl⟩
abbrev main_call1_call0_v30 : Ref sig .tc := ⟨.hbm, 101, rfl⟩
abbrev main_call1_call0_v31 : Ref sig .tc := ⟨.hbm, 102, rfl⟩
abbrev main_call1_call0_v32 : Ref sig .tc := ⟨.hbm, 103, rfl⟩
abbrev main_call1_call0_v33 : Ref sig .tc := ⟨.hbm, 104, rfl⟩
abbrev main_call1_call0_v34 : Ref sig .tc := ⟨.hbm, 105, rfl⟩
abbrev main_call1_call0_v35 : Ref sig .tc := ⟨.hbm, 106, rfl⟩
abbrev main_call1_call0_v36 : Ref sig .tc := ⟨.hbm, 107, rfl⟩
abbrev main_call1_call0_v37 : Ref sig .tc := ⟨.hbm, 108, rfl⟩
abbrev main_call1_call0_c_8 : Ref sig .tc := ⟨.hbm, 109, rfl⟩
abbrev main_call1_call0_v38 : Ref sig .tc := ⟨.hbm, 110, rfl⟩
abbrev main_call1_call0_v39 : Ref sig .tc := ⟨.hbm, 111, rfl⟩
abbrev main_call1_call0_v40 : Ref sig .tc := ⟨.hbm, 112, rfl⟩
abbrev main_call1_call0_c_9 : Ref sig .tc := ⟨.hbm, 113, rfl⟩
abbrev main_call1_call0_v41 : Ref sig .tc := ⟨.hbm, 114, rfl⟩
abbrev main_call1_call0_v42 : Ref sig .tc := ⟨.hbm, 115, rfl⟩
abbrev main_call1_call0_c_10 : Ref sig .tc := ⟨.hbm, 116, rfl⟩
abbrev main_call1_call0_v43 : Ref sig .tc := ⟨.hbm, 117, rfl⟩
abbrev main_call1_call0_v44 : Ref sig .tc := ⟨.hbm, 118, rfl⟩
abbrev main_call1_call0_v45 : Ref sig .tc := ⟨.hbm, 119, rfl⟩
abbrev main_call1_call0_v46 : Ref sig .tc := ⟨.hbm, 120, rfl⟩
abbrev main_call1_call0_v47 : Ref sig .tc := ⟨.hbm, 121, rfl⟩
abbrev main_call1_call0_c_11 : Ref sig .tc := ⟨.hbm, 122, rfl⟩
abbrev main_call1_call0_v48 : Ref sig .tc := ⟨.hbm, 123, rfl⟩
abbrev main_call1_call0_v49 : Ref sig .tc := ⟨.hbm, 124, rfl⟩
abbrev main_call1_call0_c_12 : Ref sig .tc := ⟨.hbm, 125, rfl⟩
abbrev main_call1_call0_v50 : Ref sig .tc := ⟨.hbm, 126, rfl⟩
abbrev main_call1_call0_v51 : Ref sig .tc := ⟨.hbm, 127, rfl⟩
abbrev main_call1_call0_v52 : Ref sig .tc := ⟨.hbm, 128, rfl⟩
abbrev main_call1_call0_v53 : Ref sig .tc := ⟨.hbm, 129, rfl⟩
abbrev main_call1_call0_v54 : Ref sig .tc := ⟨.hbm, 130, rfl⟩
abbrev main_call1_call0_c_13 : Ref sig .tc := ⟨.hbm, 131, rfl⟩
abbrev main_call1_call0_v55 : Ref sig .tc := ⟨.hbm, 132, rfl⟩
abbrev main_call1_call0_v56 : Ref sig .tc := ⟨.hbm, 133, rfl⟩
abbrev main_call1_call0_c_14 : Ref sig .tc := ⟨.hbm, 134, rfl⟩
abbrev main_call1_call0_v57 : Ref sig .tc := ⟨.hbm, 135, rfl⟩
abbrev main_call1_call0_v58 : Ref sig .tc := ⟨.hbm, 136, rfl⟩
abbrev main_call1_call0_v59 : Ref sig .tc := ⟨.hbm, 137, rfl⟩
abbrev main_call1_call0_v60 : Ref sig .tc := ⟨.hbm, 138, rfl⟩
abbrev main_call1_call0_v61 : Ref sig .tc := ⟨.hbm, 139, rfl⟩
abbrev main_call1_call0_c_15 : Ref sig .tc := ⟨.hbm, 140, rfl⟩
abbrev main_call1_call0_v62 : Ref sig .tc := ⟨.hbm, 141, rfl⟩
abbrev main_call1_call0_v63 : Ref sig .tc := ⟨.hbm, 142, rfl⟩
abbrev main_call1_call0_c_16 : Ref sig .tc := ⟨.hbm, 143, rfl⟩
abbrev main_call1_call0_v64 : Ref sig .tc := ⟨.hbm, 144, rfl⟩
abbrev main_call1_call0_v65 : Ref sig .tc := ⟨.hbm, 145, rfl⟩
abbrev main_call1_call0_v66 : Ref sig .tc := ⟨.hbm, 146, rfl⟩
abbrev main_call1_call0_v67 : Ref sig .tc := ⟨.hbm, 147, rfl⟩
abbrev main_call1_call0_v68 : Ref sig .tc := ⟨.hbm, 148, rfl⟩
abbrev main_call1_call0_v69 : Ref sig .tc := ⟨.hbm, 149, rfl⟩
abbrev main_call1_call0_v70 : Ref sig .tc := ⟨.hbm, 150, rfl⟩
abbrev main_call1_call0_v71 : Ref sig .tc := ⟨.hbm, 151, rfl⟩
abbrev main_call1_call0_c_17 : Ref sig .tc := ⟨.hbm, 152, rfl⟩
abbrev main_call1_call0_v72 : Ref sig .tc := ⟨.hbm, 153, rfl⟩
abbrev main_call1_call0_v73 : Ref sig .tc := ⟨.hbm, 154, rfl⟩
abbrev main_call1_call0_v74 : Ref sig .tc := ⟨.hbm, 155, rfl⟩
abbrev main_call1_call0_c_18 : Ref sig .tc := ⟨.hbm, 156, rfl⟩
abbrev main_call1_call0_v75 : Ref sig .tc := ⟨.hbm, 157, rfl⟩
abbrev main_call1_call0_v76 : Ref sig .tc := ⟨.hbm, 158, rfl⟩
abbrev main_call1_call0_c_19 : Ref sig .tc := ⟨.hbm, 159, rfl⟩
abbrev main_call1_call0_v77 : Ref sig .tc := ⟨.hbm, 160, rfl⟩
abbrev main_call1_call0_v78 : Ref sig .tc := ⟨.hbm, 161, rfl⟩
abbrev main_call1_call0_v79 : Ref sig .tc := ⟨.hbm, 162, rfl⟩
abbrev main_call1_call0_v80 : Ref sig .tc := ⟨.hbm, 163, rfl⟩
abbrev main_call1_call0_v81 : Ref sig .tc := ⟨.hbm, 164, rfl⟩
abbrev main_call1_call0_c_20 : Ref sig .tc := ⟨.hbm, 165, rfl⟩
abbrev main_call1_call0_v82 : Ref sig .tc := ⟨.hbm, 166, rfl⟩
abbrev main_call1_call0_v83 : Ref sig .tc := ⟨.hbm, 167, rfl⟩
abbrev main_call1_call0_c_21 : Ref sig .tc := ⟨.hbm, 168, rfl⟩
abbrev main_call1_call0_v84 : Ref sig .tc := ⟨.hbm, 169, rfl⟩
abbrev main_call1_call0_v85 : Ref sig .tc := ⟨.hbm, 170, rfl⟩
abbrev main_call1_call0_v86 : Ref sig .tc := ⟨.hbm, 171, rfl⟩
abbrev main_call1_call0_v87 : Ref sig .tc := ⟨.hbm, 172, rfl⟩
abbrev main_call1_call0_v88 : Ref sig .tc := ⟨.hbm, 173, rfl⟩
abbrev main_call1_call0_c_22 : Ref sig .tc := ⟨.hbm, 174, rfl⟩
abbrev main_call1_call0_v89 : Ref sig .tc := ⟨.hbm, 175, rfl⟩
abbrev main_call1_call0_v90 : Ref sig .tc := ⟨.hbm, 176, rfl⟩
abbrev main_call1_call0_c_23 : Ref sig .tc := ⟨.hbm, 177, rfl⟩
abbrev main_call1_call0_v91 : Ref sig .tc := ⟨.hbm, 178, rfl⟩
abbrev main_call1_call0_v92 : Ref sig .tc := ⟨.hbm, 179, rfl⟩
abbrev main_call1_call0_v93 : Ref sig .tc := ⟨.hbm, 180, rfl⟩
abbrev main_call1_call0_v94 : Ref sig .tc := ⟨.hbm, 181, rfl⟩
abbrev main_call1_call0_v95 : Ref sig .tc := ⟨.hbm, 182, rfl⟩
abbrev main_call1_call0_c_24 : Ref sig .tc := ⟨.hbm, 183, rfl⟩
abbrev main_call1_call0_v96 : Ref sig .tc := ⟨.hbm, 184, rfl⟩
abbrev main_call1_call0_v97 : Ref sig .tc := ⟨.hbm, 185, rfl⟩
abbrev main_call1_call0_c_25 : Ref sig .tc := ⟨.hbm, 186, rfl⟩
abbrev main_call1_call0_v98 : Ref sig .tc := ⟨.hbm, 187, rfl⟩
abbrev main_call1_call0_v99 : Ref sig .tc := ⟨.hbm, 188, rfl⟩
abbrev main_call1_call0_v100 : Ref sig .tc := ⟨.hbm, 189, rfl⟩
abbrev main_call1_call0_v101 : Ref sig .tc := ⟨.hbm, 190, rfl⟩
abbrev main_call1_call0_v102 : Ref sig .tc := ⟨.hbm, 191, rfl⟩
abbrev main_call1_call0_v103 : Ref sig .tc := ⟨.hbm, 192, rfl⟩
abbrev main_call1_call0_v104 : Ref sig .tc := ⟨.hbm, 193, rfl⟩
abbrev main_call1_call0_v105 : Ref sig .tc := ⟨.hbm, 194, rfl⟩
abbrev main_call1_call0_c_26 : Ref sig .tc := ⟨.hbm, 195, rfl⟩
abbrev main_call1_call0_v106 : Ref sig .tc := ⟨.hbm, 196, rfl⟩
abbrev main_call1_call0_v107 : Ref sig .tc := ⟨.hbm, 197, rfl⟩
abbrev main_call1_call0_v108 : Ref sig .tc := ⟨.hbm, 198, rfl⟩
abbrev main_call1_call0_c_27 : Ref sig .tc := ⟨.hbm, 199, rfl⟩
abbrev main_call1_call0_v109 : Ref sig .tc := ⟨.hbm, 200, rfl⟩
abbrev main_call1_call0_v110 : Ref sig .tc := ⟨.hbm, 201, rfl⟩
abbrev main_call1_call0_c_28 : Ref sig .tc := ⟨.hbm, 202, rfl⟩
abbrev main_call1_call0_v111 : Ref sig .tc := ⟨.hbm, 203, rfl⟩
abbrev main_call1_call0_v112 : Ref sig .tc := ⟨.hbm, 204, rfl⟩
abbrev main_call1_call0_v113 : Ref sig .tc := ⟨.hbm, 205, rfl⟩
abbrev main_call1_call0_v114 : Ref sig .tc := ⟨.hbm, 206, rfl⟩
abbrev main_call1_call0_v115 : Ref sig .tc := ⟨.hbm, 207, rfl⟩
abbrev main_call1_call0_c_29 : Ref sig .tc := ⟨.hbm, 208, rfl⟩
abbrev main_call1_call0_v116 : Ref sig .tc := ⟨.hbm, 209, rfl⟩
abbrev main_call1_call0_v117 : Ref sig .tc := ⟨.hbm, 210, rfl⟩
abbrev main_call1_call0_c_30 : Ref sig .tc := ⟨.hbm, 211, rfl⟩
abbrev main_call1_call0_v118 : Ref sig .tc := ⟨.hbm, 212, rfl⟩
abbrev main_call1_call0_v119 : Ref sig .tc := ⟨.hbm, 213, rfl⟩
abbrev main_call1_call0_v120 : Ref sig .tc := ⟨.hbm, 214, rfl⟩
abbrev main_call1_call0_v121 : Ref sig .tc := ⟨.hbm, 215, rfl⟩
abbrev main_call1_call0_v122 : Ref sig .tc := ⟨.hbm, 216, rfl⟩
abbrev main_call1_call0_c_31 : Ref sig .tc := ⟨.hbm, 217, rfl⟩
abbrev main_call1_call0_v123 : Ref sig .tc := ⟨.hbm, 218, rfl⟩
abbrev main_call1_call0_v124 : Ref sig .tc := ⟨.hbm, 219, rfl⟩
abbrev main_call1_call0_c_32 : Ref sig .tc := ⟨.hbm, 220, rfl⟩
abbrev main_call1_call0_v125 : Ref sig .tc := ⟨.hbm, 221, rfl⟩
abbrev main_call1_call0_v126 : Ref sig .tc := ⟨.hbm, 222, rfl⟩
abbrev main_call1_call0_v127 : Ref sig .tc := ⟨.hbm, 223, rfl⟩
abbrev main_call1_call0_v128 : Ref sig .tc := ⟨.hbm, 224, rfl⟩
abbrev main_call1_call0_v129 : Ref sig .tc := ⟨.hbm, 225, rfl⟩
abbrev main_call1_call0_c_33 : Ref sig .tc := ⟨.hbm, 226, rfl⟩
abbrev main_call1_call0_v130 : Ref sig .tc := ⟨.hbm, 227, rfl⟩
abbrev main_call1_call0_v131 : Ref sig .tc := ⟨.hbm, 228, rfl⟩
abbrev main_call1_call0_c_34 : Ref sig .tc := ⟨.hbm, 229, rfl⟩
abbrev main_call1_call0_v132 : Ref sig .tc := ⟨.hbm, 230, rfl⟩
abbrev main_call1_call0_v133 : Ref sig .tc := ⟨.hbm, 231, rfl⟩
abbrev main_call1_call0_v134 : Ref sig .tc := ⟨.hbm, 232, rfl⟩
abbrev main_call1_call0_v135 : Ref sig .tc := ⟨.hbm, 233, rfl⟩
abbrev main_call1_call0_v136 : Ref sig .tc := ⟨.hbm, 234, rfl⟩
abbrev main_call1_call0_v137 : Ref sig .tc := ⟨.hbm, 235, rfl⟩
abbrev main_call1_call0_v138 : Ref sig .tc := ⟨.hbm, 236, rfl⟩
abbrev main_call1_call0_v139 : Ref sig .tc := ⟨.hbm, 237, rfl⟩
abbrev main_call1_call0_c_35 : Ref sig .tc := ⟨.hbm, 238, rfl⟩
abbrev main_call1_call0_v140 : Ref sig .tc := ⟨.hbm, 239, rfl⟩
abbrev main_call1_call0_v141 : Ref sig .tc := ⟨.hbm, 240, rfl⟩
abbrev main_call1_call0_v142 : Ref sig .tc := ⟨.hbm, 241, rfl⟩
abbrev main_call1_call0_c_36 : Ref sig .tc := ⟨.hbm, 242, rfl⟩
abbrev main_call1_call0_v143 : Ref sig .tc := ⟨.hbm, 243, rfl⟩
abbrev main_call1_call0_v144 : Ref sig .tc := ⟨.hbm, 244, rfl⟩
abbrev main_call1_call0_c_37 : Ref sig .tc := ⟨.hbm, 245, rfl⟩
abbrev main_call1_call0_v145 : Ref sig .tc := ⟨.hbm, 246, rfl⟩
abbrev main_call1_call0_v146 : Ref sig .tc := ⟨.hbm, 247, rfl⟩
abbrev main_call1_call0_v147 : Ref sig .tc := ⟨.hbm, 248, rfl⟩
abbrev main_call1_call0_v148 : Ref sig .tc := ⟨.hbm, 249, rfl⟩
abbrev main_call1_call0_v149 : Ref sig .tc := ⟨.hbm, 250, rfl⟩
abbrev main_call1_call0_c_38 : Ref sig .tc := ⟨.hbm, 251, rfl⟩
abbrev main_call1_call0_v150 : Ref sig .tc := ⟨.hbm, 252, rfl⟩
abbrev main_call1_call0_v151 : Ref sig .tc := ⟨.hbm, 253, rfl⟩
abbrev main_call1_call0_c_39 : Ref sig .tc := ⟨.hbm, 254, rfl⟩
abbrev main_call1_call0_v152 : Ref sig .tc := ⟨.hbm, 255, rfl⟩
abbrev main_call1_call0_v153 : Ref sig .tc := ⟨.hbm, 256, rfl⟩
abbrev main_call1_call0_v154 : Ref sig .tc := ⟨.hbm, 257, rfl⟩
abbrev main_call1_call0_v155 : Ref sig .tc := ⟨.hbm, 258, rfl⟩
abbrev main_call1_call0_v156 : Ref sig .tc := ⟨.hbm, 259, rfl⟩
abbrev main_call1_call0_c_40 : Ref sig .tc := ⟨.hbm, 260, rfl⟩
abbrev main_call1_call0_v157 : Ref sig .tc := ⟨.hbm, 261, rfl⟩
abbrev main_call1_call0_v158 : Ref sig .tc := ⟨.hbm, 262, rfl⟩
abbrev main_call1_call0_c_41 : Ref sig .tc := ⟨.hbm, 263, rfl⟩
abbrev main_call1_call0_v159 : Ref sig .tc := ⟨.hbm, 264, rfl⟩
abbrev main_call1_call0_v160 : Ref sig .tc := ⟨.hbm, 265, rfl⟩
abbrev main_call1_call0_v161 : Ref sig .tc := ⟨.hbm, 266, rfl⟩
abbrev main_call1_call0_v162 : Ref sig .tc := ⟨.hbm, 267, rfl⟩
abbrev main_call1_call0_v163 : Ref sig .tc := ⟨.hbm, 268, rfl⟩
abbrev main_call1_call0_c_42 : Ref sig .tc := ⟨.hbm, 269, rfl⟩
abbrev main_call1_call0_v164 : Ref sig .tc := ⟨.hbm, 270, rfl⟩
abbrev main_call1_call0_v165 : Ref sig .tc := ⟨.hbm, 271, rfl⟩
abbrev main_call1_call0_c_43 : Ref sig .tc := ⟨.hbm, 272, rfl⟩
abbrev main_call1_call0_v166 : Ref sig .tc := ⟨.hbm, 273, rfl⟩
abbrev main_call1_call0_v167 : Ref sig .tc := ⟨.hbm, 274, rfl⟩
abbrev main_call1_call0_v168 : Ref sig .tc := ⟨.hbm, 275, rfl⟩
abbrev main_call1_call0_v169 : Ref sig .tc := ⟨.hbm, 276, rfl⟩
abbrev main_call1_call0_v170 : Ref sig .tc := ⟨.hbm, 277, rfl⟩
abbrev main_call1_v18_0 : Ref sig .tc := ⟨.hbm, 278, rfl⟩
abbrev main_call1_call0_v172 : Ref sig .tc := ⟨.hbm, 279, rfl⟩
abbrev main_call1_call0_v173 : Ref sig .tc := ⟨.hbm, 280, rfl⟩
abbrev main_call1_call0_c_44 : Ref sig .tc := ⟨.hbm, 281, rfl⟩
abbrev main_call1_call0_v174 : Ref sig .tc := ⟨.hbm, 282, rfl⟩
abbrev main_call1_v18_1 : Ref sig .tc := ⟨.hbm, 283, rfl⟩
abbrev main_call1_v19 : Ref sig .tc := ⟨.hbm, 284, rfl⟩
abbrev main_call1_c_2 : Ref sig .tc := ⟨.hbm, 285, rfl⟩
abbrev main_call1_v20 : Ref sig .tc := ⟨.hbm, 286, rfl⟩
abbrev main_call1_v21 : Ref sig .tc := ⟨.hbm, 287, rfl⟩
abbrev main_call1_c_3 : Ref sig .tc := ⟨.hbm, 288, rfl⟩
abbrev main_call1_v22 : Ref sig .tc := ⟨.hbm, 289, rfl⟩
abbrev main_call1_v23 : Ref sig .tc := ⟨.hbm, 290, rfl⟩
abbrev main_call1_v24 : Ref sig .tc := ⟨.hbm, 291, rfl⟩
abbrev main_call1_cst : Ref sig .tc := ⟨.hbm, 292, rfl⟩
abbrev main_call1_v25 : Ref sig .tc := ⟨.hbm, 293, rfl⟩
abbrev main_call1_v26 : Ref sig .tc := ⟨.hbm, 294, rfl⟩
abbrev main_call1_v27 : Ref sig .tc := ⟨.hbm, 295, rfl⟩
abbrev main_call1_v28 : Ref sig .tc := ⟨.hbm, 296, rfl⟩
abbrev main_call1_v29 : Ref sig .tc := ⟨.hbm, 297, rfl⟩
abbrev main_call1_v30 : Ref sig .tc := ⟨.hbm, 298, rfl⟩
abbrev main_call1_v31 : Ref sig .tc := ⟨.hbm, 299, rfl⟩
abbrev main_call1_v32 : Ref sig .tc := ⟨.hbm, 300, rfl⟩
abbrev main_v18 : Ref sig .tc := ⟨.hbm, 301, rfl⟩
abbrev main_v19 : Ref sig .tc := ⟨.hbm, 302, rfl⟩
abbrev main_v20 : Ref sig .tc := ⟨.hbm, 303, rfl⟩
abbrev main_v21 : Ref sig .tc := ⟨.hbm, 304, rfl⟩
abbrev main_v22 : Ref sig .tc := ⟨.hbm, 305, rfl⟩
abbrev main_cst_3 : Ref sig .tc := ⟨.hbm, 306, rfl⟩
abbrev main_v23 : Ref sig .tc := ⟨.hbm, 307, rfl⟩
abbrev main_v24 : Ref sig .tc := ⟨.hbm, 308, rfl⟩
abbrev main_cst_4 : Ref sig .tc := ⟨.hbm, 309, rfl⟩
abbrev main_v25 : Ref sig .tc := ⟨.hbm, 310, rfl⟩
abbrev main_v26 : Ref sig .tc := ⟨.hbm, 311, rfl⟩
abbrev main_cst_5 : Ref sig .tc := ⟨.hbm, 312, rfl⟩
abbrev main_v27 : Ref sig .tc := ⟨.hbm, 313, rfl⟩
abbrev main_v28 : Ref sig .tc := ⟨.hbm, 314, rfl⟩
abbrev main_cst_6 : Ref sig .tc := ⟨.hbm, 315, rfl⟩
abbrev main_v29 : Ref sig .tc := ⟨.hbm, 316, rfl⟩
abbrev main_v30 : Ref sig .tc := ⟨.hbm, 317, rfl⟩
abbrev main_v31 : Ref sig .tc := ⟨.hbm, 318, rfl⟩
abbrev main_cst_7 : Ref sig .tc := ⟨.hbm, 319, rfl⟩
abbrev main_v32 : Ref sig .tc := ⟨.hbm, 320, rfl⟩
abbrev main_v33 : Ref sig .tc := ⟨.hbm, 321, rfl⟩
abbrev main_v34 : Ref sig .tc := ⟨.hbm, 322, rfl⟩
abbrev main_cst_8 : Ref sig .tc := ⟨.hbm, 323, rfl⟩
abbrev main_v35 : Ref sig .tc := ⟨.hbm, 324, rfl⟩
abbrev main_v36 : Ref sig .tc := ⟨.hbm, 325, rfl⟩
abbrev main_v37 : Ref sig .tc := ⟨.hbm, 326, rfl⟩
abbrev main_cst_9 : Ref sig .tc := ⟨.hbm, 327, rfl⟩
abbrev main_v38 : Ref sig .tc := ⟨.hbm, 328, rfl⟩
abbrev main_v39 : Ref sig .tc := ⟨.hbm, 329, rfl⟩
abbrev main_v40 : Ref sig .tc := ⟨.hbm, 330, rfl⟩
abbrev main_cst_10 : Ref sig .tc := ⟨.hbm, 331, rfl⟩
abbrev main_v41 : Ref sig .tc := ⟨.hbm, 332, rfl⟩
abbrev main_v42 : Ref sig .tc := ⟨.hbm, 333, rfl⟩
abbrev main_v43 : Ref sig .tc := ⟨.hbm, 334, rfl⟩
abbrev main_cst_11 : Ref sig .tc := ⟨.hbm, 335, rfl⟩
abbrev main_v44 : Ref sig .tc := ⟨.hbm, 336, rfl⟩
abbrev main_v45 : Ref sig .tc := ⟨.hbm, 337, rfl⟩
abbrev main_v46 : Ref sig .tc := ⟨.hbm, 338, rfl⟩
abbrev main_cst_12 : Ref sig .tc := ⟨.hbm, 339, rfl⟩
abbrev main_v47 : Ref sig .tc := ⟨.hbm, 340, rfl⟩
abbrev main_v48 : Ref sig .tc := ⟨.hbm, 341, rfl⟩
abbrev main_v49 : Ref sig .tc := ⟨.hbm, 342, rfl⟩
abbrev main_cst_13 : Ref sig .tc := ⟨.hbm, 343, rfl⟩
abbrev main_v50 : Ref sig .tc := ⟨.hbm, 344, rfl⟩
abbrev main_v51 : Ref sig .tc := ⟨.hbm, 345, rfl⟩
abbrev main_v52 : Ref sig .tc := ⟨.hbm, 346, rfl⟩
abbrev main_cst_14 : Ref sig .tc := ⟨.hbm, 347, rfl⟩
abbrev main_v53 : Ref sig .tc := ⟨.hbm, 348, rfl⟩
abbrev main_v54 : Ref sig .tc := ⟨.hbm, 349, rfl⟩
abbrev main_cst_15 : Ref sig .tc := ⟨.hbm, 350, rfl⟩
abbrev main_v55 : Ref sig .tc := ⟨.hbm, 351, rfl⟩
abbrev main_v56 : Ref sig .tc := ⟨.hbm, 352, rfl⟩
abbrev main_cst_16 : Ref sig .tc := ⟨.hbm, 353, rfl⟩
abbrev main_v57 : Ref sig .tc := ⟨.hbm, 354, rfl⟩
abbrev main_v58 : Ref sig .tc := ⟨.hbm, 355, rfl⟩
abbrev main_v59 : Ref sig .tc := ⟨.hbm, 356, rfl⟩
abbrev main_cst_17 : Ref sig .tc := ⟨.hbm, 357, rfl⟩
abbrev main_v60 : Ref sig .tc := ⟨.hbm, 358, rfl⟩
abbrev main_v61 : Ref sig .tc := ⟨.hbm, 359, rfl⟩
abbrev main_v62 : Ref sig .tc := ⟨.hbm, 360, rfl⟩
abbrev main_cst_18 : Ref sig .tc := ⟨.hbm, 361, rfl⟩
abbrev main_v63 : Ref sig .tc := ⟨.hbm, 362, rfl⟩
abbrev main_v64 : Ref sig .tc := ⟨.hbm, 363, rfl⟩
abbrev main_v65 : Ref sig .tc := ⟨.hbm, 364, rfl⟩
abbrev main_cst_19 : Ref sig .tc := ⟨.hbm, 365, rfl⟩
abbrev main_v66 : Ref sig .tc := ⟨.hbm, 366, rfl⟩
abbrev main_v67 : Ref sig .tc := ⟨.hbm, 367, rfl⟩
abbrev main_v68 : Ref sig .tc := ⟨.hbm, 368, rfl⟩
abbrev main_cst_20 : Ref sig .tc := ⟨.hbm, 369, rfl⟩
abbrev main_v69 : Ref sig .tc := ⟨.hbm, 370, rfl⟩
abbrev main_v70 : Ref sig .tc := ⟨.hbm, 371, rfl⟩
abbrev main_v71 : Ref sig .tc := ⟨.hbm, 372, rfl⟩
abbrev main_cst_21 : Ref sig .tc := ⟨.hbm, 373, rfl⟩
abbrev main_v72 : Ref sig .tc := ⟨.hbm, 374, rfl⟩
abbrev main_v73 : Ref sig .tc := ⟨.hbm, 375, rfl⟩
abbrev main_v74 : Ref sig .tc := ⟨.hbm, 376, rfl⟩
abbrev main_cst_22 : Ref sig .tc := ⟨.hbm, 377, rfl⟩
abbrev main_v75 : Ref sig .tc := ⟨.hbm, 378, rfl⟩
abbrev main_v76 : Ref sig .tc := ⟨.hbm, 379, rfl⟩
abbrev main_v77 : Ref sig .tc := ⟨.hbm, 380, rfl⟩
abbrev main_cst_23 : Ref sig .tc := ⟨.hbm, 381, rfl⟩
abbrev main_v78 : Ref sig .tc := ⟨.hbm, 382, rfl⟩
abbrev main_v79 : Ref sig .tc := ⟨.hbm, 383, rfl⟩
abbrev main_v80 : Ref sig .tc := ⟨.hbm, 384, rfl⟩
abbrev main_v81 : Ref sig .tc := ⟨.hbm, 385, rfl⟩
abbrev main_cst_24 : Ref sig .tc := ⟨.hbm, 386, rfl⟩
abbrev main_v82 : Ref sig .tc := ⟨.hbm, 387, rfl⟩
abbrev main_v83 : Ref sig .tc := ⟨.hbm, 388, rfl⟩
abbrev main_cst_25 : Ref sig .tc := ⟨.hbm, 389, rfl⟩
abbrev main_v84 : Ref sig .tc := ⟨.hbm, 390, rfl⟩
abbrev main_v85 : Ref sig .tc := ⟨.hbm, 391, rfl⟩
abbrev main_v86 : Ref sig .tc := ⟨.hbm, 392, rfl⟩
abbrev main_v87 : Ref sig .tc := ⟨.hbm, 393, rfl⟩
abbrev main_cst_26 : Ref sig .tc := ⟨.hbm, 394, rfl⟩
abbrev main_v88 : Ref sig .tc := ⟨.hbm, 395, rfl⟩
abbrev main_v89 : Ref sig .tc := ⟨.hbm, 396, rfl⟩
abbrev main_v90 : Ref sig .tc := ⟨.hbm, 397, rfl⟩
abbrev main_v91 : Ref sig .tc := ⟨.hbm, 398, rfl⟩
abbrev main_values : Ref sig .tc := ⟨.hbm, 399, rfl⟩
abbrev main_indices : Ref sig .tc := ⟨.hbm, 400, rfl⟩
abbrev main_v92 : Ref sig .tc := ⟨.hbm, 401, rfl⟩
abbrev main_v93 : Ref sig .tc := ⟨.hbm, 402, rfl⟩
abbrev main_cst_27 : Ref sig .tc := ⟨.hbm, 403, rfl⟩
abbrev main_v94 : Ref sig .tc := ⟨.hbm, 404, rfl⟩
abbrev main_c_28 : Ref sig .tc := ⟨.hbm, 405, rfl⟩
abbrev main_v95 : Ref sig .tc := ⟨.hbm, 406, rfl⟩
abbrev main_v96 : Ref sig .tc := ⟨.hbm, 407, rfl⟩
abbrev main_c_29 : Ref sig .tc := ⟨.hbm, 408, rfl⟩
abbrev main_v97 : Ref sig .tc := ⟨.hbm, 409, rfl⟩
abbrev main_v98 : Ref sig .tc := ⟨.hbm, 410, rfl⟩
abbrev main_v99 : Ref sig .tc := ⟨.hbm, 411, rfl⟩
abbrev main_c_30 : Ref sig .tc := ⟨.hbm, 412, rfl⟩
abbrev main_v100 : Ref sig .tc := ⟨.hbm, 413, rfl⟩
abbrev main_v101 : Ref sig .tc := ⟨.hbm, 414, rfl⟩
abbrev main_c_31 : Ref sig .tc := ⟨.hbm, 415, rfl⟩
abbrev main_v102 : Ref sig .tc := ⟨.hbm, 416, rfl⟩
abbrev main_v103 : Ref sig .tc := ⟨.hbm, 417, rfl⟩
abbrev main_v104 : Ref sig .tc := ⟨.hbm, 418, rfl⟩
abbrev main_v105 : Ref sig .tc := ⟨.hbm, 419, rfl⟩
abbrev main_v106 : Ref sig .tc := ⟨.hbm, 420, rfl⟩
abbrev main_v107 : Ref sig .tc := ⟨.hbm, 421, rfl⟩
abbrev main_v108 : Ref sig .tc := ⟨.hbm, 422, rfl⟩
abbrev main_cst_32 : Ref sig .tc := ⟨.hbm, 423, rfl⟩
abbrev main_v109 : Ref sig .tc := ⟨.hbm, 424, rfl⟩
abbrev main_cst_33 : Ref sig .tc := ⟨.hbm, 425, rfl⟩
abbrev main_v110 : Ref sig .tc := ⟨.hbm, 426, rfl⟩
abbrev main_v111 : Ref sig .tc := ⟨.hbm, 427, rfl⟩
abbrev main_v112 : Ref sig .tc := ⟨.hbm, 428, rfl⟩
abbrev main_v113 : Ref sig .tc := ⟨.hbm, 429, rfl⟩
abbrev main_v114 : Ref sig .tc := ⟨.hbm, 430, rfl⟩
abbrev main_v115 : Ref sig .tc := ⟨.hbm, 431, rfl⟩
abbrev main_cst_34 : Ref sig .tc := ⟨.hbm, 432, rfl⟩
abbrev main_v116 : Ref sig .tc := ⟨.hbm, 433, rfl⟩
abbrev main_v117 : Ref sig .tc := ⟨.hbm, 434, rfl⟩
abbrev main_v118 : Ref sig .tc := ⟨.hbm, 435, rfl⟩
abbrev main_v119 : Ref sig .tc := ⟨.hbm, 436, rfl⟩

abbrev nD : Nat := 1
abbrev τ : Topo := Topo.v7x

variable {F : FTy → Type} [FloatOps F]
-- ==== Proof.Equations.lean ====
/-
  A straight line of host operations in which each operation writes the next buffer in the order of their numbers:
  after the line, EVERY operation's equation holds between the final contents of its operands and of its result.
  So what a long reference leaves is read off as a system of equations, one per printed line, with no term composed.
-/
module

public import Idealize.ShloMosaic.Lib.StableHlo.RunHlo

@[expose] public section

noncomputable section

namespace Cert.Equations

open Idealize.ShloMosaic Idealize.ShloMosaic.StableHlo Idealize.SL.Sem

variable {nD : Nat} {τ : Topo} {sig : RefSig} {Val : EltTy → Type} {Λ : Labels}

/-- The contents `V` satisfy the equation of every host operation of the program: running the operation again would
    change nothing. -/
def Sat {α : Type} (V : Valuation τ sig Val) : Prog (TpuEff nD τ sig Val Λ .tc) α → Prop
  | .ret _ => True
  | .op (.hloBegin _ op) k => op.result V = V ∧ Sat V (k ⟨⟩)
  | .op (.hloEnd _ _) k => Sat V (k fun b => V b)
  | .op _ _ => True

/-- A printed line followed by the rest: the line's equation and the rest's. -/
theorem sat_line (V : Valuation τ sig Val) (op : HloOp τ sig Val) (q : Prog (TpuEff nD τ sig Val Λ .tc) PUnit) :
    Sat V ((hlo rfl op fun _ => .ret (⟨⟩ : PUnit)) >>= fun _ => q) ↔ op.result V = V ∧ Sat V q := Iff.rfl

/-- A straight line's equations are those of the operations of its list. -/
theorem sat_seq (V : Valuation τ sig Val) (ops : List (HloOp τ sig Val)) :
    Sat V (seq ops : Prog (TpuEff nD τ sig Val Λ .tc) PUnit) ↔ ∀ op ∈ ops, op.result V = V := by
  induction ops with
  | nil => exact ⟨fun _ _ h => (List.not_mem_nil h).elim, fun _ => trivial⟩
  | cons op ops ih => rw [List.forall_mem_cons, ← ih]; exact sat_line V op _

/-- `p` is a straight line of host operations. -/
def Straight (p : Prog (TpuEff nD τ sig Val Λ .tc) PUnit) : Prop := ∃ ops, IsSeq p ops

/-- A straight line followed by another program satisfies both parts' equations. -/
theorem sat_bind (V : Valuation τ sig Val) {p : Prog (TpuEff nD τ sig Val Λ .tc) PUnit} (hp : Straight p)
    (q : Prog (TpuEff nD τ sig Val Λ .tc) PUnit) : Sat V (p >>= fun _ => q) ↔ Sat V p ∧ Sat V q := by
  obtain ⟨ops, rfl⟩ := hp
  induction ops with
  | nil => exact (iff_of_eq (true_and _)).symm
  | cons op ops ih =>
    rw [seq, bind_assoc, sat_line, sat_line, ih, and_assoc]

/-- The concatenation of two straight lines is one, its list the two lists' concatenation. -/
theorem isSeq_append {p q : Prog (TpuEff nD τ sig Val Λ .tc) PUnit} {l₁ l₂ : List (HloOp τ sig Val)}
    (hp : IsSeq p l₁) (hq : IsSeq q l₂) : IsSeq (p >>= fun _ => q) (l₁ ++ l₂) := by
  unfold IsSeq at *; rw [hp, hq, seq_append]

/-- The buffers of HBM numbered below `n`. -/
def Below (n : Nat) (r : Ref sig .tc) : Prop := r.space = .hbm ∧ r.idx.val < n

/-- Two contents agree on the buffers of HBM numbered below `n`. -/
def AgreeBelow (n : Nat) (V V' : Valuation τ sig Val) : Prop :=
  ∀ r : Ref sig .tc, Below n r → V (Proc.devRef .tc r) = V' (Proc.devRef .tc r)

/-- The operation writes buffer `y` alone, number `n` of HBM, from the buffers numbered below `n`. -/
structure Writes (n : Nat) (op : HloOp τ sig Val) : Prop where
  out : ∃ y : Ref sig .tc, y.space = .hbm ∧ y.idx.val = n ∧ op.writes = {Proc.devRef .tc y} ∧
    ∀ V V' : Valuation τ sig Val, AgreeBelow n V V' → op.result V (Proc.devRef .tc y) = op.result V' (Proc.devRef .tc y)
  bufs : op.bufs ⊆ tcRefs τ sig
  fresh : op.fresh = ∅

/-- The operations write the buffers numbered `n`, `n + 1`, … of HBM, in order. -/
inductive Ordered : Nat → List (HloOp τ sig Val) → Prop
  | nil (n : Nat) : Ordered n []
  | cons {n : Nat} {op : HloOp τ sig Val} {ops : List (HloOp τ sig Val)} (h : Writes n op) (hs : Ordered (n + 1) ops) :
      Ordered n (op :: ops)

/-- Number `n` of HBM, as a decidable condition on a printed reference. -/
def isNo (n : Nat) (r : Ref sig .tc) : Bool := decide (r.space = .hbm) && r.idx.val == n
/-- Below number `n` of HBM, as a decidable condition on a printed reference. -/
def isBelow (n : Nat) (r : Ref sig .tc) : Bool := decide (r.space = .hbm) && decide (r.idx.val < n)

theorem of_isNo {n : Nat} {r : Ref sig .tc} (h : isNo n r = true) : r.space = .hbm ∧ r.idx.val = n := by
  simpa [isNo] using h
theorem of_isBelow {n : Nat} {r : Ref sig .tc} (h : isBelow n r = true) : Below n r := by
  simpa [isBelow, Below] using h

theorem writes_nullary {n : Nat} {y : Ref sig .tc} {v : y.ty.Contents Val} {hy} (h : isNo n y = true) :
    Writes n (nullary (τ := τ) y v hy) where
  out := ⟨y, (of_isNo h).1, (of_isNo h).2, rfl, fun V V' _ => by rw [nullary_result, nullary_result]⟩
  bufs b hb := by
    simp only [nullary_bufs, Finset.mem_insert, Finset.mem_singleton] at hb
    rcases hb with rfl <;> exact devRef_mem_tcRefs _
  fresh := rfl

theorem writes_unary {n : Nat} {x y : Ref sig .tc} {f : x.ty.Contents Val → y.ty.Contents Val} {hx hy}
    (hxn : isBelow n x = true) (h : isNo n y = true) : Writes n (unary (τ := τ) x y f hx hy) where
  out := ⟨y, (of_isNo h).1, (of_isNo h).2, rfl, fun V V' e => by
    rw [unary_result, unary_result, e x (of_isBelow hxn)]⟩
  bufs b hb := by
    simp only [unary_bufs, Finset.mem_insert, Finset.mem_singleton] at hb
    rcases hb with rfl | rfl <;> exact devRef_mem_tcRefs _
  fresh := rfl

theorem writes_binary {n : Nat} {a b y : Ref sig .tc} {f : a.ty.Contents Val → b.ty.Contents Val → y.ty.Contents Val}
    {ha hb hy} (han : isBelow n a = true) (hbn : isBelow n b = true) (h : isNo n y = true) :
    Writes n (binary (τ := τ) a b y f ha hb hy) where
  out := ⟨y, (of_isNo h).1, (of_isNo h).2, rfl, fun V V' e => by
    rw [binary_result, binary_result, e a (of_isBelow han), e b (of_isBelow hbn)]⟩
  bufs b hb := by
    simp only [binary_bufs, Finset.mem_insert, Finset.mem_singleton] at hb
    rcases hb with rfl | rfl | rfl <;> exact devRef_mem_tcRefs _
  fresh := rfl

theorem writes_ternary {n : Nat} {c a b y : Ref sig .tc}
    {f : c.ty.Contents Val → a.ty.Contents Val → b.ty.Contents Val → y.ty.Contents Val} {hc ha hb hy}
    (hcn : isBelow n c = true) (han : isBelow n a = true) (hbn : isBelow n b = true) (h : isNo n y = true) :
    Writes n (ternary (τ := τ) c a b y f hc ha hb hy) where
  out := ⟨y, (of_isNo h).1, (of_isNo h).2, rfl, fun V V' e => by
    rw [ternary_result, ternary_result, e c (of_isBelow hcn), e a (of_isBelow han), e b (of_isBelow hbn)]⟩
  bufs b hb := by
    simp only [ternary_bufs, Finset.mem_insert, Finset.mem_singleton] at hb
    rcases hb with rfl | rfl | rfl | rfl <;> exact devRef_mem_tcRefs _
  fresh := rfl

theorem writes_reshape {n : Nat} {x y : Ref sig .tc} {he hn hx hy}
    (hxn : isBelow n x = true) (h : isNo n y = true) : Writes n (StableHlo.reshape (τ := τ) (Val := Val) x y he hn hx hy) where
  out := ⟨y, (of_isNo h).1, (of_isNo h).2, rfl, fun V V' e => by
    rw [reshape_result, reshape_result, e x (of_isBelow hxn)]⟩
  bufs b hb := by
    simp only [reshape_bufs, Finset.mem_insert, Finset.mem_singleton] at hb
    rcases hb with rfl | rfl <;> exact devRef_mem_tcRefs _
  fresh := rfl

/-- An operation that writes number `n` leaves every lower-numbered buffer. -/
theorem Writes.agree {n : Nat} {op : HloOp τ sig Val} (h : Writes n op) (V : Valuation τ sig Val) :
    AgreeBelow n (op.result V) V := by
  obtain ⟨y, _, hyn, hw, _⟩ := h.out
  refine fun r hr => op.result_of_not_mem V fun hm => ?_
  rw [hw] at hm
  obtain rfl := Proc.devRef_injective _ (Finset.mem_singleton.mp hm)
  exact absurd hr.2 (by omega)

/-- A line that writes the numbers from `n` on leaves every buffer below `n`. -/
theorem Ordered.agree {n : Nat} {ops : List (HloOp τ sig Val)} (h : Ordered n ops) (V : Valuation τ sig Val) :
    AgreeBelow n (after ops V) V := by
  induction h generalizing V with
  | nil n => exact fun _ _ => rfl
  | cons h _ ih =>
    exact fun r hr => (ih _ r ⟨hr.1, Nat.lt_succ_of_lt hr.2⟩).trans (h.agree V r hr)

/-- After an ordered line every operation's equation holds. -/
theorem Ordered.fixed {n : Nat} {ops : List (HloOp τ sig Val)} (h : Ordered n ops) (V : Valuation τ sig Val) :
    ∀ op ∈ ops, op.result (after ops V) = after ops V := by
  induction h generalizing V with
  | nil n => exact fun _ h => (List.not_mem_nil h).elim
  | @cons n op ops h hs ih =>
    refine List.forall_mem_cons.mpr ⟨?_, ih _⟩
    obtain ⟨y, hsp, hyn, hw, hf⟩ := h.out
    have hag : AgreeBelow (n + 1) (after (op :: ops) V) (op.result V) := hs.agree _
    funext b
    by_cases hb : b ∈ op.writes
    · rw [hw] at hb
      obtain rfl := Finset.mem_singleton.mp hb
      rw [hag y ⟨hsp, by omega⟩]
      exact hf _ _ fun r hr => (hag r ⟨hr.1, Nat.lt_succ_of_lt hr.2⟩).trans (h.agree V r hr)
    · exact op.result_of_not_mem _ hb

theorem Ordered.append {n k : Nat} {l₁ l₂ : List (HloOp τ sig Val)} (h₁ : Ordered n l₁) (hk : n + l₁.length = k)
    (h₂ : Ordered k l₂) : Ordered n (l₁ ++ l₂) := by
  induction h₁ generalizing k with
  | nil n => subst hk; exact h₂
  | cons h _ ih => exact .cons h (ih (by rw [List.length_cons] at hk; omega) h₂)

theorem Ordered.bufs {n : Nat} {ops : List (HloOp τ sig Val)} (h : Ordered n ops) :
    ops.Forall fun op => op.bufs ⊆ tcRefs τ sig := by
  induction h with
  | nil n => trivial
  | cons h _ ih => exact (List.forall_cons _ _ _).mpr ⟨h.bufs, ih⟩

theorem Ordered.fresh {n : Nat} {ops : List (HloOp τ sig Val)} (h : Ordered n ops) : ∀ op ∈ ops, op.fresh = ∅ := by
  induction h with
  | nil n => exact fun _ h => (List.not_mem_nil h).elim
  | cons h _ ih => exact List.forall_mem_cons.mpr ⟨h.fresh, ih⟩

/-- `p` is a straight line of host operations that writes the buffers numbered `n`, …, `k - 1` in order. -/
def Line (p : Prog (TpuEff nD τ sig Val Λ .tc) PUnit) (n k : Nat) : Prop :=
  ∃ ops, IsSeq p ops ∧ Ordered n ops ∧ n + ops.length = k

theorem Line.straight {p : Prog (TpuEff nD τ sig Val Λ .tc) PUnit} {n k : Nat} (h : Line p n k) : Straight p :=
  h.imp fun _ h => h.1

theorem Line.nil (n : Nat) : Line (pure ⟨⟩ : Prog (TpuEff nD τ sig Val Λ .tc) PUnit) n n :=
  ⟨[], IsSeq.nil, .nil n, rfl⟩

theorem Line.bind {p q : Prog (TpuEff nD τ sig Val Λ .tc) PUnit} {n k l : Nat} (hp : Line p n k) (hq : Line q k l) :
    Line (p >>= fun _ => q) n l := by
  obtain ⟨l₁, h₁, o₁, e₁⟩ := hp
  obtain ⟨l₂, h₂, o₂, e₂⟩ := hq
  exact ⟨l₁ ++ l₂, isSeq_append h₁ h₂, o₁.append e₁ o₂, by rw [List.length_append]; omega⟩

/-- One printed line that writes number `n`. -/
theorem Line.one {n : Nat} {op : HloOp τ sig Val} {y : Ref sig .tc} (h : Writes n op) (hy : isNo n y = true) :
    Line (hlo rfl op fun _ => .ret (⟨⟩ : PUnit) : Prog (TpuEff nD τ sig Val Λ .tc) PUnit) n (y.idx.val + 1) :=
  ⟨[op], rfl, .cons h (.nil _), by rw [(of_isNo hy).2]; rfl⟩

section Ones

variable {n : Nat} {c x a b y : Ref sig .tc}

theorem Line.nullary {v : y.ty.Contents Val} {hy} (h : isNo n y = true) :
    Line (hlo rfl (StableHlo.nullary y v hy) fun _ => .ret (⟨⟩ : PUnit) : Prog (TpuEff nD τ sig Val Λ .tc) PUnit) n
      (y.idx.val + 1) := .one (writes_nullary h) h

theorem Line.unary {f : x.ty.Contents Val → y.ty.Contents Val} {hx hy} (hxn : isBelow n x = true) (h : isNo n y = true) :
    Line (hlo rfl (StableHlo.unary x y f hx hy) fun _ => .ret (⟨⟩ : PUnit) : Prog (TpuEff nD τ sig Val Λ .tc) PUnit) n
      (y.idx.val + 1) := .one (writes_unary hxn h) h

theorem Line.binary {f : a.ty.Contents Val → b.ty.Contents Val → y.ty.Contents Val} {ha hb hy}
    (han : isBelow n a = true) (hbn : isBelow n b = true) (h : isNo n y = true) :
    Line (hlo rfl (StableHlo.binary a b y f ha hb hy) fun _ => .ret (⟨⟩ : PUnit) : Prog (TpuEff nD τ sig Val Λ .tc) PUnit) n
      (y.idx.val + 1) := .one (writes_binary han hbn h) h

theorem Line.ternary {f : c.ty.Contents Val → a.ty.Contents Val → b.ty.Contents Val → y.ty.Contents Val} {hc ha hb hy}
    (hcn : isBelow n c = true) (han : isBelow n a = true) (hbn : isBelow n b = true) (h : isNo n y = true) :
    Line (hlo rfl (StableHlo.ternary c a b y f hc ha hb hy) fun _ => .ret (⟨⟩ : PUnit) :
      Prog (TpuEff nD τ sig Val Λ .tc) PUnit) n (y.idx.val + 1) := .one (writes_ternary hcn han hbn h) h

theorem Line.reshape {he hn hx hy} (hxn : isBelow n x = true) (h : isNo n y = true) :
    Line (hlo rfl (StableHlo.reshape (Val := Val) x y he hn hx hy) fun _ => .ret (⟨⟩ : PUnit) :
      Prog (TpuEff nD τ sig Val Λ .tc) PUnit) n (y.idx.val + 1) := .one (writes_reshape hxn h) h

end Ones

/-- A reference that is a line from number `n` runs, from any memory with zero counters, to contents that satisfy every
    one of its equations and leave the buffers below `n` as they were. -/
theorem run (defs : Defs nD τ sig Val Λ) (main : Dev nD → Prog (TpuEff nD τ sig Val Λ .tc) PUnit) {n k : Nat}
    (d₀ : Dev nD) (hd : ∀ d, main d = main d₀) (hmain : Line (main d₀) n k)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ V : Valuation τ sig Val,
      (∀ b : Ref sig .tc, r.2.mem ((d.tc : Thread nD τ).loc b) = V (Proc.devRef .tc b)) ∧
      (∀ b : Ref sig .tc, Below n b → V (Proc.devRef .tc b) = m ((d.tc : Thread nD τ).loc b)) ∧ Sat V (main d₀) := by
  obtain ⟨ops, hseq, hord, _⟩ := hmain
  refine θ_run_mono (run_hlo defs main (fun d => (hd d).trans hseq) hR hC hord.bufs hord.fresh m ρ) fun r h d =>
    ⟨after ops (launchContents m d), h d, fun b hb => hord.agree _ b hb, ?_⟩
  rw [show main d₀ = seq ops from hseq]
  exact (sat_seq _ _).mpr (hord.fixed _)

/-! ### The equations, builder by builder -/

theorem fix_nullary {V : Valuation τ sig Val} {y : Ref sig .tc} {v : y.ty.Contents Val} {hy}
    (h : (nullary (τ := τ) y v hy).result V = V) : V (Proc.devRef .tc y) = v :=
  (congrFun h _).symm.trans (nullary_result y v hy V)

theorem fix_unary {V : Valuation τ sig Val} {x y : Ref sig .tc} {f : x.ty.Contents Val → y.ty.Contents Val} {hx hy}
    (h : (unary (τ := τ) x y f hx hy).result V = V) : V (Proc.devRef .tc y) = f (V (Proc.devRef .tc x)) :=
  (congrFun h _).symm.trans (unary_result x y f hx hy V)

theorem fix_binary {V : Valuation τ sig Val} {a b y : Ref sig .tc}
    {f : a.ty.Contents Val → b.ty.Contents Val → y.ty.Contents Val} {ha hb hy}
    (h : (binary (τ := τ) a b y f ha hb hy).result V = V) :
    V (Proc.devRef .tc y) = f (V (Proc.devRef .tc a)) (V (Proc.devRef .tc b)) :=
  (congrFun h _).symm.trans (binary_result a b y f ha hb hy V)

theorem fix_ternary {V : Valuation τ sig Val} {c a b y : Ref sig .tc}
    {f : c.ty.Contents Val → a.ty.Contents Val → b.ty.Contents Val → y.ty.Contents Val} {hc ha hb hy}
    (h : (ternary (τ := τ) c a b y f hc ha hb hy).result V = V) :
    V (Proc.devRef .tc y) = f (V (Proc.devRef .tc c)) (V (Proc.devRef .tc a)) (V (Proc.devRef .tc b)) :=
  (congrFun h _).symm.trans (ternary_result c a b y f hc ha hb hy V)

/-- What a typed reference's buffer holds, at the value's type. -/
def rd {T : BufTy} (V : Valuation τ sig Val) (t : TRef sig T) : T.Contents Val := t.ofBuf (V (Proc.devRef .tc t.ref))

section Typed

variable {Tx Ta Tb Tc Ty : BufTy}

theorem rd_eq {T : BufTy} {V : Valuation τ sig Val} {t : TRef sig T} {v : T.Contents Val}
    (h : V (Proc.devRef .tc t.ref) = t.toBuf v) : rd V t = v := by
  unfold rd; rw [h]; exact TRef.ofBuf_toBuf t v

theorem line_nullary {V : Valuation τ sig Val} {y : TRef sig Ty} {v : Ty.Contents Val}
    {q : Prog (TpuEff nD τ sig Val Λ .tc) PUnit}
    (h : Sat V ((hlo rfl (TRef.nullary y v) fun _ => .ret (⟨⟩ : PUnit)) >>= fun _ => q)) : rd V y = v ∧ Sat V q :=
  ⟨rd_eq (fix_nullary h.1), h.2⟩

theorem line_unary {V : Valuation τ sig Val} {x : TRef sig Tx} {y : TRef sig Ty} {f : Tx.Contents Val → Ty.Contents Val}
    {q : Prog (TpuEff nD τ sig Val Λ .tc) PUnit}
    (h : Sat V ((hlo rfl (TRef.unary x y f) fun _ => .ret (⟨⟩ : PUnit)) >>= fun _ => q)) :
    rd V y = f (rd V x) ∧ Sat V q :=
  ⟨rd_eq (fix_unary h.1), h.2⟩

theorem line_binary {V : Valuation τ sig Val} {a : TRef sig Ta} {b : TRef sig Tb} {y : TRef sig Ty}
    {f : Ta.Contents Val → Tb.Contents Val → Ty.Contents Val} {q : Prog (TpuEff nD τ sig Val Λ .tc) PUnit}
    (h : Sat V ((hlo rfl (TRef.binary a b y f) fun _ => .ret (⟨⟩ : PUnit)) >>= fun _ => q)) :
    rd V y = f (rd V a) (rd V b) ∧ Sat V q :=
  ⟨rd_eq (fix_binary h.1), h.2⟩

theorem line_ternary {V : Valuation τ sig Val} {c : TRef sig Tc} {a : TRef sig Ta} {b : TRef sig Tb} {y : TRef sig Ty}
    {f : Tc.Contents Val → Ta.Contents Val → Tb.Contents Val → Ty.Contents Val} {q : Prog (TpuEff nD τ sig Val Λ .tc) PUnit}
    (h : Sat V ((hlo rfl (TRef.ternary c a b y f) fun _ => .ret (⟨⟩ : PUnit)) >>= fun _ => q)) :
    rd V y = f (rd V c) (rd V a) (rd V b) ∧ Sat V q :=
  ⟨rd_eq (fix_ternary h.1), h.2⟩

theorem line_reshape {V : Valuation τ sig Val} {x : TRef sig Tx} {y : TRef sig Ty} {he : Tx.elt = Ty.elt}
    {hn : Tx.shape.ShapeCasts Ty.shape} {q : Prog (TpuEff nD τ sig Val Λ .tc) PUnit}
    (h : Sat V ((hlo rfl (TRef.reshape x y he hn) fun _ => .ret (⟨⟩ : PUnit)) >>= fun _ => q)) :
    rd V y = (fun i => he ▸ shapeCast Ty.shape (rd V x) hn i) ∧ Sat V q := by
  refine ⟨?_, h.2⟩
  have e := (congrFun h.1 (Proc.devRef .tc y.ref)).symm.trans (reshape_result _ _ _ _ _ _ V)
  obtain ⟨y, rfl, _, _⟩ := y
  obtain ⟨x, rfl, _, _⟩ := x
  exact e

end Typed

end Cert.Equations

end
-- ==== Proof.RefLine.lean ====
/-
  The reference, opened into one straight line of host operations that write its buffers in order.
-/
module

public import proofs.«01_k».proof.Proof.Gen.ReferenceIdeal
public import proofs.«01_k».proof.Proof.Equations

@[expose] public section

set_option maxRecDepth 100000
set_option maxHeartbeats 4000000

noncomputable section

namespace Cert.RefLine

open Idealize.ShloMosaic Idealize.ShloMosaic.StableHlo Idealize.SL.Sem Cert.Equations Cert.ReferenceIdeal

variable [Cert.ReferenceIdeal.Facts] {F : FTy → Type} [FloatOps F]

/-- The call of softplus is a straight line. -/
theorem softplus_line :
    Line (fn_softplus.body (F := F) (.of main_v9) main_call0) 15 29 := by
  unfold fn_softplus.body
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- Statements 1 to 60 of the counter generator are a straight line. -/
theorem threefry_line0 :
    Line (fn_threefry2x32.body_part0 (F := F) main_call1.v4 main_call1.v6 main_call1.v17 main_call1.v16 main_call1_call0) 62 122 := by
  unfold fn_threefry2x32.body_part0
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- Statements 61 to 120 of the counter generator are a straight line. -/
theorem threefry_line1 :
    Line (fn_threefry2x32.body_part1 (F := F) main_call1.v4 main_call1.v6 main_call1.v17 main_call1.v16 main_call1_call0) 122 182 := by
  unfold fn_threefry2x32.body_part1
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- Statements 121 to 180 of the counter generator are a straight line. -/
theorem threefry_line2 :
    Line (fn_threefry2x32.body_part2 (F := F) main_call1.v4 main_call1.v6 main_call1.v17 main_call1.v16 main_call1_call0) 182 242 := by
  unfold fn_threefry2x32.body_part2
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- Statements 181 to 222 of the counter generator are a straight line. -/
theorem threefry_line3 :
    Line (fn_threefry2x32.body_part3 (F := F) main_call1.v4 main_call1.v6 main_call1.v17 main_call1.v16 main_call1_call0) 242 284 := by
  unfold fn_threefry2x32.body_part3
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- The call of the counter generator is a straight line. -/
theorem threefry_line : Line (fn_threefry2x32.body (F := F) main_call1.v4 main_call1.v6 main_call1.v17 main_call1.v16 main_call1_call0) 62 284 :=
  Line.bind threefry_line0 (Line.bind threefry_line1 (Line.bind threefry_line2 threefry_line3))

/-- The call that draws the uniform numbers is a straight line. -/
theorem uniform_line :
    Line (fn_uniform.body (F := F) (.of main_v17) (.of main_cst) (.of main_cst_2) main_call1) 41 302 := by
  unfold fn_uniform.body
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl)
    | refine Line.bind threefry_line ?_)

/-- The first choice between two arrays is a straight line. -/
theorem where_line0 :
    Line (fn_where.body (F := F) (.of main_v24) (.of main_v51) (.of main_v79) main_call2) 384 385 := by
  unfold fn_where.body
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- The second choice between two arrays is a straight line. -/
theorem where_line1 :
    Line (fn_where.body (F := F) (.of main_v83) (.of main_v85) (.of main_v86) main_call3) 393 394 := by
  unfold fn_where.body
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- The first sixty statements of the reference are a straight line. -/
theorem main_line0 :
    Line (main_part0 (F := F) 0) 5 338 := by
  unfold main_part0
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl)
    | refine Line.bind softplus_line ?_
    | refine Line.bind uniform_line ?_)

/-- The second sixty statements of the reference are a straight line. -/
theorem main_line1 :
    Line (main_part1 (F := F) 0) 338 398 := by
  unfold main_part1
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl)
    | refine Line.bind where_line0 ?_
    | refine Line.bind where_line1 ?_)

/-- The last forty statements of the reference are a straight line. -/
theorem main_line2 :
    Line (main_part2 (F := F) 0) 398 437 := by
  unfold main_part2
  repeat' (first
    | exact Line.nil _
    | refine Line.bind (Line.unary (by rfl) (by rfl)) ?_
    | refine Line.bind (Line.binary (by rfl) (by rfl) (by rfl)) ?_
    | refine Line.bind (Line.nullary (by rfl)) ?_
    | refine Line.bind (Line.ternary (by rfl) (by rfl) (by rfl) (by rfl)) ?_
    | refine Line.bind (Line.reshape (by rfl) (by rfl)) ?_
    | exact Line.unary (by rfl) (by rfl)
    | exact Line.binary (by rfl) (by rfl) (by rfl)
    | exact Line.nullary (by rfl)
    | exact Line.ternary (by rfl) (by rfl) (by rfl) (by rfl))

/-- The reference is a straight line whose operations write its buffers in order, from number 5 (after the five
    arguments) on: a called function is opened where it is called. -/
theorem main_line : Line (main (F := F) 0) 5 437 :=
  Line.bind main_line0 (Line.bind main_line1 main_line2)

end Cert.RefLine

end
-- ==== Proof.RefRun.lean ====
/-
  The reference's run: from any memory with zero counters it ends, its arguments unchanged, at contents that satisfy the
  equation of every printed line.
-/
module

public import proofs.«01_k».proof.Proof.Gen.ReferenceIdeal
public import proofs.«01_k».proof.Proof.RefLine
public import Idealize.ShloMosaic.Lib.Quiescent

@[expose] public section

set_option maxRecDepth 100000
set_option maxHeartbeats 4000000

noncomputable section

namespace Cert.RefRun

open Idealize.ShloMosaic Idealize.ShloMosaic.StableHlo Idealize.SL.Sem Cert.Equations Cert.ReferenceIdeal

variable [Cert.ReferenceIdeal.Facts] {F : FTy → Type} [FloatOps F]

/-- A run of the reference from a memory `m` with zero counters ends, on every device, with contents that satisfy the
    equation of every printed line and agree with `m` on the five arguments; every counter ends at zero. -/
theorem main_run (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, ∃ V : Valuation τ sig (Elt F),
        (∀ b : Ref sig .tc, r.2.mem ((d.tc : Thread nD τ).loc b) = V (Proc.devRef .tc b)) ∧
        (∀ b : Ref sig .tc, Below 5 b → V (Proc.devRef .tc b) = m ((d.tc : Thread nD τ).loc b)) ∧
        Sat V (main (F := F) 0)) ∧
      r.2.sem = fun _ => 0 :=
  θ_run_mono (run defs main 0 (fun d => by rw [Subsingleton.elim d 0]) RefLine.main_line (by decide) (by decide) m ρ)
    fun r h => ⟨h, sem_eq_zero_of_no_sems (by decide) r.2⟩

/-- A run of the reference leaves its arguments as they were and every counter at zero. -/
theorem main_frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  θ_run_mono (main_run m ρ) fun r h => ⟨fun c => by
    obtain ⟨V, hV, hm, -⟩ := h.1 c
    have hb : ∀ b : Ref sig .tc, Below 5 b → r.2.mem ((c.tc : Thread nD τ).loc b) = m ((c.tc : Thread nD τ).loc b) :=
      fun b hb => (hV b).trans (hm b hb)
    exact ⟨hb _ ⟨rfl, by decide⟩, hb _ ⟨rfl, by decide⟩, hb _ ⟨rfl, by decide⟩, hb _ ⟨rfl, by decide⟩, hb _ ⟨rfl, by decide⟩⟩, h.2⟩

end Cert.RefRun

end
-- ==== Proof.Threefry.lean ====
/-
  The counter generator threefry-2x32 with its twenty rounds, on one pair of 32-bit words, and the pieces by which a program
  that computes it word by word is recognised.
-/
module

public import Idealize.ShloMosaic.PureOps

@[expose] public section

namespace Cert.Threefry

open Idealize.ShloMosaic

/-- A 32-bit word. -/
abbrev W := BitVec 32

/-- A word shifted left by `a` bits, joined with the word shifted right by `b` bits: a rotation where `a + b = 32`. -/
def rotate (a b x : W) : W := (x <<< a) ||| (x >>> b)

/-- One round: the two words are added, and the second is rotated and joined to the sum by exclusive or. -/
def mix (a b : W) (p : W × W) : W × W := (p.1 + p.2, (p.1 + p.2) ^^^ rotate a b p.2)

/-- The four rounds with rotations 13, 15, 26 and 6. -/
def evens (p : W × W) : W × W := mix 6#32 26#32 (mix 26#32 6#32 (mix 15#32 17#32 (mix 13#32 19#32 p)))

/-- The four rounds with rotations 17, 29, 16 and 24. -/
def odds (p : W × W) : W × W := mix 24#32 8#32 (mix 16#32 16#32 (mix 29#32 3#32 (mix 17#32 15#32 p)))

/-- A key word is added to either word, and the number of the injection to the second. -/
def inject (k l n : W) (p : W × W) : W × W := (p.1 + k, p.2 + l + n)

/-- The third word of the key's schedule. -/
def third (k0 k1 : W) : W := k0 ^^^ k1 ^^^ 466688986#32

/-- The first eight rounds and the first injections, after the key has been added to the counter. -/
def firstHalf (k0 k1 : W) (p : W × W) : W × W :=
  evens (inject (third k0 k1) k0 2#32 (odds (inject k1 (third k0 k1) 1#32 (evens p))))

/-- The remaining rounds and injections. -/
def secondHalf (k0 k1 : W) (p : W × W) : W × W :=
  inject (third k0 k1) k0 5#32 (evens (inject k1 (third k0 k1) 4#32 (odds (inject k0 k1 3#32 p))))

/-- The generator at a key of two words and a counter of two words. -/
def threefry (k0 k1 : W) (c : W × W) : W × W := secondHalf k0 k1 (firstHalf k0 k1 (c.1 + k0, c.2 + k1))

/-- Two words are one round of two others when they are computed as the round does. -/
theorem mix_eq {a b x y s t : W} (hs : s = x + y) (ht : t = s ^^^ rotate a b y) : (s, t) = mix a b (x, y) := by
  subst ht; subst hs; rfl

/-- Two words are an injection of two others when they are computed as the injection does. -/
theorem inject_eq {k l n x y s t : W} (hs : s = x + k) (ht : t = y + l + n) : (s, t) = inject k l n (x, y) := by
  subst ht; subst hs; rfl

/-- A shift to the left by less than the width is the plain shift, on every unit. -/
theorem shli_eq (u : ArithUnit) (x a : W) (h : a.toNat < 32) : IntOp.shli u x a = x <<< a := if_pos h

/-- A shift to the right by less than the width is the plain shift, on every unit. -/
theorem shrui_eq (u : ArithUnit) (x a : W) (h : a.toNat < 32) : IntOp.shrui u x a = x >>> a := if_pos h

/-- The word from which the number of token `n` and expert `e` is made: the two words of the generator at the key (0, 42)
    and the counter (0, 64 n + e), joined by exclusive or. -/
def word (c : W) : W := (threefry 0#32 42#32 (0#32, c)).1 ^^^ (threefry 0#32 42#32 (0#32, c)).2

end Cert.Threefry

end
-- ==== Proof.Spec.lean ====
/-
  The router's mathematics at one token and one expert, over the extended reals.
-/
module

public import Idealize.ShloMosaic.PureOps.Ideal
public import Idealize.ShloMosaic.PureOps.IdealRules
public import Idealize.ShloMosaic.Lib.IdealHost
public import proofs.«01_k».proof.Proof.Threefry

@[expose] public section

noncomputable section

namespace Cert.Spec

open Idealize.ShloMosaic Cert.Threefry

/-- The extended real that a binary32 literal stands for. -/
abbrev lit (b : W) : EReal := Ideal.ofBits .f32 b

/-- The number in [0, 1) whose leading 23 binary digits are the word's leading 23 bits. -/
def fraction (b : W) : EReal := lit ((b >>> (9#32 : W)) ||| 1065353216#32) - lit 0x3F800000#32

/-- The number drawn between the least one allowed, just above −1, and 1. -/
def uniform (b : W) : EReal :=
  max (lit 0xBF7FFFFF#32) (fraction b * (lit 0x3F800000#32 - lit 0xBF7FFFFF#32) + lit 0xBF7FFFFF#32)

/-- A polynomial by Horner's scheme, the leading coefficient first. -/
def poly (t : EReal) (c : W) (cs : List W) : EReal := cs.foldl (fun p c => p * t + lit c) (lit c)

/-- The lesser coefficients of the polynomial of the inverse error function near the centre. -/
abbrev centre : List W :=
  [0x34B84B36#32, 0xB66C7357#32, 0xB6935AC1#32, 0x396532DB#32, 0xBAA45408#32, 0xBB88E4EF#32, 0x3E7C8F63#32,
    0x3FC02E2F#32]

/-- The lesser coefficients of the polynomial of the inverse error function in the tail. -/
abbrev tail : List W :=
  [0x38D3B56B#32, 0x3AB0DC72#32, 0xBB70BDE7#32, 0x3BBC127B#32, 0xBBF9C5D7#32, 0x3C1AA57E#32, 0x3F8036DB#32,
    0x40354F7E#32]

/-- The factor of the inverse error function, from `w = −log(1 − u²)`. -/
def factor (w : EReal) : EReal :=
  if w < lit 0x40A00000#32 then poly (w - lit 0x40200000#32) 0x32F16588#32 centre
  else poly (Ideal.sqrt w - lit 0x40400000#32) 0xB951F09B#32 tail

/-- The inverse error function, by its single-precision polynomials. -/
def erfInv (u : EReal) : EReal :=
  if max u (-u) = lit 0x3F800000#32 then lit 0x7F800000#32 * u else factor (-Ideal.log1p (-(u * u))) * u

/-- The standard normal number made from a word. -/
def normal (b : W) : EReal := lit 0x3FB504F3#32 * erfInv (uniform b)

/-- The softplus function, `log(1 + exp z)`. -/
def softplus (z : EReal) : EReal := max z 0 + Ideal.log1p (Ideal.exp (-max z (-z)))

/-- A row of logits: the products with the weights summed, and the bias. -/
def affine (x w : Fin 768 → EReal) (b : EReal) : EReal := (∑ k, x k * w k) + b

/-- The logit of a token and an expert with its noise. -/
def noisy (x gw : Fin 768 → EReal) (gb : EReal) (nw : Fin 768 → EReal) (nb : EReal) (b : W) : EReal :=
  affine x gw gb + normal b * softplus (affine x nw nb)

/-- The noisy logits of a token, the counter of its random word for expert `e` being `64 n + e`. -/
def tokenRow (x : Fin 32768 → Fin 768 → EReal) (gw : Fin 64 → Fin 768 → EReal) (gb : Fin 64 → EReal)
    (nw : Fin 64 → Fin 768 → EReal) (nb : Fin 64 → EReal) (n : Fin 32768) (e : Fin 64) : EReal :=
  noisy (x n) (gw e) (gb e) (nw e) (nb e) (word (BitVec.ofNat 32 (64 * n + e)))

/-- The expert's score is the greatest of the row, and every expert before it has a lesser one. -/
def IsBest (s : Fin 64 → EReal) (e : Fin 64) : Prop := (∀ i, s i ≤ s e) ∧ ∀ i, i < e → s i < s e

/-- A row has a first greatest score. -/
theorem exists_best (s : Fin 64 → EReal) : ∃ e, IsBest s e := by
  classical
  obtain ⟨b, -, hb⟩ := Finset.exists_max_image Finset.univ s ⟨0, Finset.mem_univ _⟩
  have hne : (Finset.univ.filter fun i => s i = s b).Nonempty := ⟨b, by simp⟩
  refine ⟨(Finset.univ.filter fun i => s i = s b).min' hne, ?_⟩
  have he : s ((Finset.univ.filter fun i => s i = s b).min' hne) = s b := by
    have := Finset.min'_mem _ hne
    simpa using this
  refine ⟨fun i => (hb i (Finset.mem_univ _)).trans he.ge, fun i hi => ?_⟩
  refine lt_of_le_of_ne ((hb i (Finset.mem_univ _)).trans he.ge) fun h => ?_
  exact absurd (Finset.min'_le _ i (by simpa using h.trans he)) (not_le.mpr hi)

/-- The first expert with the greatest score. -/
def best (s : Fin 64 → EReal) : Fin 64 := (exists_best s).choose

theorem best_spec (s : Fin 64 → EReal) : IsBest s (best s) := (exists_best s).choose_spec

/-- There is one first greatest score only. -/
theorem IsBest.unique {s : Fin 64 → EReal} {e f : Fin 64} (he : IsBest s e) (hf : IsBest s f) : e = f := by
  rcases lt_trichotomy e f with h | h | h
  · exact absurd (he.1 f) (not_le.mpr (hf.2 e h))
  · exact h
  · exact absurd (hf.1 e) (not_le.mpr (he.2 f h))

end Cert.Spec

end
-- ==== Proof.Finite.lean ====
/-
  From real arguments every noisy logit is a real number.
-/
module

public import proofs.«01_k».proof.Proof.Spec
public import Mathlib.Analysis.SpecialFunctions.Log.Basic

@[expose] public section

noncomputable section

namespace Cert.Finite

open Idealize.ShloMosaic Cert.Threefry Cert.Spec

/-- An extended real that is a real number. -/
def IsReal (x : EReal) : Prop := ∃ r : ℝ, x = r

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.neg {x : EReal} (hx : IsReal x) : IsReal (-x) := by
  obtain ⟨r, rfl⟩ := hx
  exact ⟨-r, (EReal.coe_neg r).symm⟩

theorem IsReal.sub {x y : EReal} (hx : IsReal x) (hy : IsReal y) : IsReal (x - y) := by
  rw [sub_eq_add_neg]
  exact hx.add hy.neg

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases max_choice x y with h | h <;> rw [h]
  · exact hx
  · exact hy

theorem IsReal.sum {n : Nat} {f : Fin n → EReal} (h : ∀ k, IsReal (f k)) : IsReal (∑ k, f k) := by
  choose g hg using h
  refine ⟨∑ k, g k, ?_⟩
  simp only [hg]
  exact (map_sum (⟨⟨((↑) : ℝ → EReal), EReal.coe_zero⟩, EReal.coe_add⟩ : ℝ →+ EReal) g Finset.univ).symm

/-- A literal whose exponent field is not full stands for a real number. -/
theorem lit_real (b : W) (h : (b.extractLsb' 23 8).toNat ≠ 255) : IsReal (lit b) := by
  unfold lit Ideal.ofBits Ideal.ieee
  dsimp only
  rw [if_neg (show ¬(b.extractLsb' 23 8).toNat = 2 ^ 8 - 1 from h)]
  split
  · exact ⟨_, rfl⟩
  · exact ⟨_, rfl⟩

/-- The fraction is a real number from 0 up to 1. -/
theorem fraction_range (b : W) : ∃ r : ℝ, fraction b = r ∧ 0 ≤ r ∧ r < 1 := by
  have hk : (b >>> (9#32 : W)).toNat < 2 ^ 23 := by
    rw [BitVec.ushiftRight_eq', BitVec.toNat_ushiftRight, Nat.shiftRight_eq_div_pow]
    have := b.isLt
    show b.toNat / 2 ^ 9 < 2 ^ 23
    omega
  have hc : ((b >>> (9#32 : W)) ||| 1065353216#32).toNat = 127 * 2 ^ 23 + (b >>> (9#32 : W)).toNat := by
    rw [BitVec.toNat_or, Nat.or_comm, show (1065353216#32 : W).toNat = 127 <<< 23 by decide,
      ← Nat.shiftLeft_add_eq_or_of_lt hk]
    rfl
  generalize (b >>> (9#32 : W)).toNat = k at hk hc
  have e0 : (((b >>> (9#32 : W)) ||| 1065353216#32).extractLsb' 0 23).toNat = k := by
    rw [BitVec.extractLsb'_toNat, hc, Nat.shiftRight_eq_div_pow]
    omega
  have e1 : (((b >>> (9#32 : W)) ||| 1065353216#32).extractLsb' 23 8).toNat = 127 := by
    rw [BitVec.extractLsb'_toNat, hc, Nat.shiftRight_eq_div_pow]
    omega
  have e2 : ((b >>> (9#32 : W)) ||| 1065353216#32).extractLsb' 31 1 = 0#1 := by
    apply BitVec.eq_of_toNat_eq
    rw [BitVec.extractLsb'_toNat, hc, Nat.shiftRight_eq_div_pow]
    simp only [BitVec.toNat_ofNat]
    omega
  have hl : lit ((b >>> (9#32 : W)) ||| 1065353216#32) = ((1 + k / 2 ^ 23 : ℝ) : EReal) := by
    unfold lit Ideal.ofBits Ideal.ieee
    dsimp only
    rw [e0, e1, e2, if_neg (by decide), if_neg (by decide)]
    congr 1
    norm_num
    ring
  refine ⟨k / 2 ^ 23, ?_, by positivity, ?_⟩
  · rw [fraction, hl, lit, Ideal.ofBits_one_f32, ← EReal.coe_one, ← EReal.coe_sub]
    congr 1
    ring
  · rw [div_lt_one (by positivity)]
    exact_mod_cast hk

/-- The least number drawn. -/
theorem lit_least : lit 0xBF7FFFFF#32 = ((-(16777215 / 16777216) : ℝ) : EReal) := by
  have e0 : ((0xBF7FFFFF#32 : W).extractLsb' 0 23).toNat = 8388607 := by decide
  have e1 : ((0xBF7FFFFF#32 : W).extractLsb' 23 8).toNat = 126 := by decide
  have e2 : (0xBF7FFFFF#32 : W).extractLsb' 31 1 = 1#1 := by decide
  unfold lit Ideal.ofBits Ideal.ieee
  dsimp only
  rw [e0, e1, e2, if_neg (by decide), if_neg (by decide)]
  congr 1
  norm_num

/-- The drawn number is a real number between −1 and 1. -/
theorem uniform_range (b : W) : ∃ r : ℝ, uniform b = r ∧ -1 < r ∧ r < 1 := by
  obtain ⟨f, hf, h0, h1⟩ := fraction_range b
  have he : fraction b * (lit 0x3F800000#32 - lit 0xBF7FFFFF#32) + lit 0xBF7FFFFF#32
      = ((f * (1 - -(16777215 / 16777216)) + -(16777215 / 16777216) : ℝ) : EReal) := by
    rw [hf, lit_least, lit, Ideal.ofBits_one_f32, ← EReal.coe_one, ← EReal.coe_sub, ← EReal.coe_mul, ← EReal.coe_add]
  rw [uniform, he, lit_least]
  rcases max_choice ((-(16777215 / 16777216) : ℝ) : EReal)
    ((f * (1 - -(16777215 / 16777216)) + -(16777215 / 16777216) : ℝ) : EReal) with h | h <;> rw [h]
  · exact ⟨_, rfl, by norm_num, by norm_num⟩
  · exact ⟨_, rfl, by linarith, by linarith⟩

/-- The same for a list of literals. -/
theorem lits_real {cs : List W} (h : cs.all (fun b => (b.extractLsb' 23 8).toNat != 255) = true) :
    ∀ b ∈ cs, IsReal (lit b) :=
  fun b hb => lit_real b (by simpa using List.all_eq_true.mp h b hb)

/-- A polynomial with real coefficients at a real number. -/
theorem poly_real {t : EReal} (ht : IsReal t) {c : W} (hc : IsReal (lit c)) {cs : List W}
    (hcs : ∀ b ∈ cs, IsReal (lit b)) : IsReal (poly t c cs) := by
  unfold poly
  generalize lit c = p at hc
  induction cs generalizing p with
  | nil => exact hc
  | cons b cs ih =>
    exact ih (fun b hb => hcs b (List.mem_cons_of_mem _ hb)) _ ((hc.mul ht).add (hcs b List.mem_cons_self))

/-- The logarithm of 1 and a real number above −1. -/
theorem log1p_real {r : ℝ} (h : -1 < r) : Ideal.log1p (r : EReal) = (Real.log (1 + r) : ℝ) := by
  rw [Ideal.log1p, ← EReal.coe_one, ← EReal.coe_add, Ideal.log_coe, if_neg (by linarith)]

/-- The inverse error function at a real number between −1 and 1. -/
theorem erfInv_real {r : ℝ} (h0 : -1 < r) (h1 : r < 1) : IsReal (erfInv r) := by
  have hsq : r * r < 1 := by nlinarith
  have hw : -Ideal.log1p (-((r : EReal) * r)) = ((-Real.log (1 - r * r) : ℝ) : EReal) := by
    rw [← EReal.coe_mul, ← EReal.coe_neg, log1p_real (by linarith), ← EReal.coe_neg, ← sub_eq_add_neg]
  have hpos : 0 ≤ -Real.log (1 - r * r) := by
    have := Real.log_nonpos (show 0 ≤ 1 - r * r by linarith) (by nlinarith [mul_self_nonneg r])
    linarith
  have hne : max (r : EReal) (-r) ≠ lit 0x3F800000#32 := by
    rw [lit, Ideal.ofBits_one_f32]
    refine ne_of_lt (max_lt ?_ ?_)
    · exact_mod_cast h1
    · rw [← EReal.coe_neg]
      exact_mod_cast (by linarith : -r < 1)
  rw [erfInv, if_neg hne, hw, factor]
  refine IsReal.mul ?_ ⟨r, rfl⟩
  split
  · refine poly_real (IsReal.sub ⟨_, rfl⟩ (lit_real _ (by decide))) (lit_real _ (by decide)) (lits_real (by decide))
  · refine poly_real (IsReal.sub ?_ (lit_real _ (by decide))) (lit_real _ (by decide)) (lits_real (by decide))
    · rw [Ideal.sqrt_coe, if_neg (not_lt.mpr hpos)]
      exact ⟨_, rfl⟩

/-- The normal number made from a word. -/
theorem normal_real (b : W) : IsReal (normal b) := by
  obtain ⟨r, hr, h0, h1⟩ := uniform_range b
  rw [normal, hr]
  exact (lit_real _ (by decide)).mul (erfInv_real h0 h1)

/-- The softplus of a real number. -/
theorem softplus_real {z : EReal} (hz : IsReal z) : IsReal (softplus z) := by
  unfold softplus
  refine (hz.max ⟨0, EReal.coe_zero.symm⟩).add ?_
  obtain ⟨s, hs⟩ := (hz.max hz.neg).neg
  rw [hs, Ideal.exp_coe, log1p_real (by linarith [Real.exp_pos s])]
  exact ⟨_, rfl⟩

/-- A row of logits of real numbers. -/
theorem affine_real {x w : Fin 768 → EReal} {b : EReal} (hx : ∀ k, IsReal (x k)) (hw : ∀ k, IsReal (w k))
    (hb : IsReal b) : IsReal (affine x w b) :=
  (IsReal.sum fun k => (hx k).mul (hw k)).add hb

/-- The noisy logits of real arguments are real numbers. -/
theorem tokenRow_real {x : Fin 32768 → Fin 768 → EReal} {gw : Fin 64 → Fin 768 → EReal} {gb : Fin 64 → EReal}
    {nw : Fin 64 → Fin 768 → EReal} {nb : Fin 64 → EReal} (hx : ∀ n k, IsReal (x n k)) (hgw : ∀ e k, IsReal (gw e k))
    (hgb : ∀ e, IsReal (gb e)) (hnw : ∀ e k, IsReal (nw e k)) (hnb : ∀ e, IsReal (nb e)) (n : Fin 32768) (e : Fin 64) :
    IsReal (tokenRow x gw gb nw nb n e) :=
  (affine_real (hx n) (hgw e) (hgb e)).add ((normal_real _).mul (softplus_real (affine_real (hx n) (hnw e) (hnb e))))

end Cert.Finite

end
-- ==== Proof.Arguments.lean ====
/-
  What the precondition says: every entry of every argument is a real number.
-/
module

public import proofs.«01_k».proof.Pre_finite_arguments
public import proofs.«01_k».proof.Proof.Finite
public import Idealize.ShloMosaic.Lib.ReduceAll

@[expose] public section

noncomputable section

namespace Cert.Arguments

open Idealize.ShloMosaic Cert.Finite Cert.Pre_finite_arguments

/-- The shapes that the precondition names fit together. -/
theorem facts : Cert.Pre_finite_arguments.Facts where
  bcast_S_S32768x768 := by decide
  reducesTo_S32768x768_S_d0_1 := by decide
  h_S_ := by decide
  bcast_S_S64x768 := by decide
  reducesTo_S64x768_S_d0_1 := by decide
  bcast_S_S64 := by decide
  reducesTo_S64_S_d0 := by decide

/-- A number whose size is below the infinite literal is real. -/
theorem real_of_below {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht, Ideal.cmp] at h
  have hlt : max x (-x) < ⊤ := by
    by_contra hn
    simp [hn] at h
  obtain ⟨h0, h1⟩ := max_lt_iff.mp hlt
  induction x using EReal.rec with
  | bot => simp at h1
  | coe r => exact ⟨r, rfl⟩
  | top => simp at h0

/-- An array of which the test holds everywhere has real entries only. -/
theorem reals {s t : Shape} [Subsingleton t.Idx] {dims : List (Fin s.rank)} (x : FVec Ideal s .f32) (y : FVec Ideal s .f32)
    (hy : ∀ i, y i = Ideal.ofBits .f32 0x7F800000#32) (init : IVec S_ 1) (h : s.ReducesTo dims t) (hu : 0 < S_.numel) (j : t.Idx)
    (e : Host.reduce IntOp.andi (cmpf .olt (Host.absf x) y) init h hu j = 1#1) (i : s.Idx) : IsReal (x i) := by
  have h1 := Host.reduce_andi_all _ _ _ _ j e i
  refine real_of_below ?_
  rw [← hy i]
  exact h1

/-- The precondition gives real entries, of all five arguments. -/
theorem reals_of_pre [Cert.Pre_finite_arguments.Facts] {a0 : FVec Ideal S32768x768 .f32} {a1 : FVec Ideal S64x768 .f32}
    {a2 : FVec Ideal S64 .f32} {a3 : FVec Ideal S64x768 .f32} {a4 : FVec Ideal S64 .f32}
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have hj := congrFun h (Shape.Idx.first Facts.h_S_)
  dsimp only [fn, fn_part1] at hj
  obtain ⟨hj, h4⟩ := IntOp.andi_eq_one.mp hj
  obtain ⟨hj, h3⟩ := IntOp.andi_eq_one.mp hj
  obtain ⟨hj, h2⟩ := IntOp.andi_eq_one.mp hj
  obtain ⟨h0, h1⟩ := IntOp.andi_eq_one.mp hj
  exact ⟨reals a0 _ (fun _ => rfl) _ _ _ _ h0, reals a1 _ (fun _ => rfl) _ _ _ _ h1, reals a2 _ (fun _ => rfl) _ _ _ _ h2,
    reals a3 _ (fun _ => rfl) _ _ _ _ h3, reals a4 _ (fun _ => rfl) _ _ _ _ h4⟩

end Cert.Arguments

end
-- ==== Proof.KernelBits.lean ====
/-
  The random words of the kernel's block: every entry is the generator's word at its counter.
-/
module

public import proofs.«01_k».proof.Proof.Gen.KernelIdeal.Frame
public import proofs.«01_k».proof.Proof.Threefry

@[expose] public section

set_option maxRecDepth 16384

noncomputable section

namespace Cert.KernelBits

open Idealize.ShloMosaic Cert.KernelIdeal Cert.KernelIdeal.Gen Cert.Threefry

variable [Cert.KernelIdeal.Facts]

/-- A rotation written as the kernel writes it. -/
theorem rotate_vec (a b : W) (ha : a.toNat < 32) (hb : b.toNat < 32) (x y : W) :
    IntOp.xori y (IntOp.ori (IntOp.shli .vector x a) (IntOp.shrui .vector x b)) = y ^^^ rotate a b x := by
  rw [shli_eq _ _ _ ha, shrui_eq _ _ _ hb]; rfl

/-- Rounds 1 to 6, with the first injection. -/
theorem rounds_one (v34 v39 : IVec S64x2048 32) (k2 : W) (j : S64x2048.Idx) :
    (k0_pay16 v34 k2 v39 j, k0_pay18 (k0_pay15 v34 k2 v39) (k0_pay16 v34 k2 v39) (k0_pay17 v34 k2 v39) j)
      = mix 29#32 3#32 (mix 17#32 15#32 (inject 42#32 k2 1#32 (evens (v39 j, v34 j + 42#32)))) := by
  have e1 : (k0_pay6 v34 v39 j, k0_pay7 v34 v39 j) = mix 13#32 19#32 (v39 j, v34 j + 42#32) :=
    mix_eq rfl (rotate_vec 13#32 19#32 (by decide) (by decide) _ _)
  have e2 : (k0_pay8 v34 v39 j, k0_pay9 v34 v39 j) = mix 15#32 17#32 (k0_pay6 v34 v39 j, k0_pay7 v34 v39 j) :=
    mix_eq rfl (rotate_vec 15#32 17#32 (by decide) (by decide) _ _)
  have e3 : (k0_pay10 v34 v39 j, k0_pay11 v34 v39 j) = mix 26#32 6#32 (k0_pay8 v34 v39 j, k0_pay9 v34 v39 j) :=
    mix_eq rfl (rotate_vec 26#32 6#32 (by decide) (by decide) _ _)
  have e4 : (k0_pay12 v34 v39 j + 42#32, k0_pay13 v34 k2 v39 j)
      = inject 42#32 k2 1#32 (mix 6#32 26#32 (k0_pay10 v34 v39 j, k0_pay11 v34 v39 j)) :=
    inject_eq rfl (congrArg (fun z => z + k2 + 1#32) (rotate_vec 6#32 26#32 (by decide) (by decide) _ _))
  have e5 : (k0_pay14 v34 k2 v39 j, k0_pay15 v34 k2 v39 j)
      = mix 17#32 15#32 (k0_pay12 v34 v39 j + 42#32, k0_pay13 v34 k2 v39 j) :=
    mix_eq rfl (rotate_vec 17#32 15#32 (by decide) (by decide) _ _)
  rw [evens, ← e1, ← e2, ← e3, ← e4, ← e5]
  exact mix_eq rfl (rotate_vec 29#32 3#32 (by decide) (by decide) _ _)

/-- Rounds 7 to 12, with the second and third injections. -/
theorem rounds_two (v82 v83 v85 : IVec S64x2048 32) (k2 : W) (j : S64x2048.Idx) :
    (k0_pay29 k2 v82 v83 v85 j + 0#32, k0_pay30 (k0_pay28 k2 v82 v83 v85) (k0_pay29 k2 v82 v83 v85) 6#32 j)
      = inject 0#32 42#32 3#32 (evens (inject k2 0#32 2#32
          (mix 24#32 8#32 (mix 16#32 16#32 (v83 j, k0_pay18 v82 v83 v85 j))))) := by
  have e1 : (k0_pay19 v82 v83 v85 j, k0_pay20 v82 v83 v85 j) = mix 16#32 16#32 (v83 j, k0_pay18 v82 v83 v85 j) :=
    mix_eq rfl (rotate_vec 16#32 16#32 (by decide) (by decide) _ _)
  have e2 : (k0_pay21 v82 v83 v85 j + k2, k0_pay22 v82 v83 v85 j)
      = inject k2 0#32 2#32 (mix 24#32 8#32 (k0_pay19 v82 v83 v85 j, k0_pay20 v82 v83 v85 j)) :=
    inject_eq rfl (congrArg (fun z => z + 0#32 + 2#32) (rotate_vec 24#32 8#32 (by decide) (by decide) _ _))
  have e3 : (k0_pay23 k2 v82 v83 v85 j, k0_pay24 k2 v82 v83 v85 j)
      = mix 13#32 19#32 (k0_pay21 v82 v83 v85 j + k2, k0_pay22 v82 v83 v85 j) :=
    mix_eq rfl (rotate_vec 13#32 19#32 (by decide) (by decide) _ _)
  have e4 : (k0_pay25 k2 v82 v83 v85 j, k0_pay26 k2 v82 v83 v85 j)
      = mix 15#32 17#32 (k0_pay23 k2 v82 v83 v85 j, k0_pay24 k2 v82 v83 v85 j) :=
    mix_eq rfl (rotate_vec 15#32 17#32 (by decide) (by decide) _ _)
  have e5 : (k0_pay27 k2 v82 v83 v85 j, k0_pay28 k2 v82 v83 v85 j)
      = mix 26#32 6#32 (k0_pay25 k2 v82 v83 v85 j, k0_pay26 k2 v82 v83 v85 j) :=
    mix_eq rfl (rotate_vec 26#32 6#32 (by decide) (by decide) _ _)
  rw [evens, ← e1, ← e2, ← e3, ← e4, ← e5]
  exact inject_eq rfl (congrArg (fun z => z + 42#32 + 3#32) (rotate_vec 6#32 26#32 (by decide) (by decide) _ _))

/-- Rounds 13 to 16, with the fourth injection. -/
theorem rounds_three (v130 v131 : IVec S64x2048 32) (k2 : W) (j : S64x2048.Idx) :
    (k0_pay38 v130 v131 6#32 j, k0_pay39 k2 v130 v131 6#32 j)
      = inject 42#32 k2 4#32 (odds (v131 j + 0#32, k0_pay30 v130 v131 6#32 j)) := by
  have e1 : (k0_pay31 v130 v131 6#32 j, k0_pay32 v130 v131 6#32 j)
      = mix 17#32 15#32 (v131 j + 0#32, k0_pay30 v130 v131 6#32 j) :=
    mix_eq rfl (rotate_vec 17#32 15#32 (by decide) (by decide) _ _)
  have e2 : (k0_pay33 v130 v131 6#32 j, k0_pay34 v130 v131 6#32 j)
      = mix 29#32 3#32 (k0_pay31 v130 v131 6#32 j, k0_pay32 v130 v131 6#32 j) :=
    mix_eq rfl (rotate_vec 29#32 3#32 (by decide) (by decide) _ _)
  have e3 : (k0_pay35 v130 v131 6#32 j, k0_pay36 v130 v131 6#32 j)
      = mix 16#32 16#32 (k0_pay33 v130 v131 6#32 j, k0_pay34 v130 v131 6#32 j) :=
    mix_eq rfl (rotate_vec 16#32 16#32 (by decide) (by decide) _ _)
  rw [odds, ← e1, ← e2, ← e3]
  exact inject_eq rfl (congrArg (fun z => z + k2 + 4#32) (rotate_vec 24#32 8#32 (by decide) (by decide) _ _))

/-- Rounds 17 to 20 with the last injection, and the two words joined. -/
def lastWord (k2 : W) (p : W × W) : W := (inject k2 0#32 5#32 (evens p)).1 ^^^ (inject k2 0#32 5#32 (evens p)).2

/-- The first sixteen rounds, from a counter whose first word has its key word added. -/
theorem rounds_four (v34 v39 : IVec S64x2048 32) (k2 : W) (j : S64x2048.Idx) (v82 v83 v85 v130 v131 : IVec S64x2048 32)
    (h82 : v82 = k0_pay15 v34 k2 v39) (h83 : v83 = k0_pay16 v34 k2 v39) (h85 : v85 = k0_pay17 v34 k2 v39)
    (h130 : v130 = k0_pay28 k2 v82 v83 v85) (h131 : v131 = k0_pay29 k2 v82 v83 v85) :
    (k0_pay38 v130 v131 6#32 j, k0_pay39 k2 v130 v131 6#32 j)
      = inject 42#32 k2 4#32 (odds (inject 0#32 42#32 3#32 (evens (inject k2 0#32 2#32 (odds (inject 42#32 k2 1#32
          (evens (v39 j, v34 j + 42#32)))))))) := by
  rw [rounds_three, h130, h131, rounds_two, h82, h83, h85, rounds_one]; rfl

end Cert.KernelBits

end
-- ==== Proof.KernelPoint.lean ====
/-
  The kernel's block at one expert and one token, at the extended reals.
-/
module

public import proofs.«01_k».proof.Proof.KernelBits
public import proofs.«01_k».proof.Proof.Spec
public import Idealize.ShloMosaic.Lib.Pipeline.ValueKit
public import Idealize.ShloMosaic.Lib.Pointwise

@[expose] public section

set_option maxRecDepth 16384

noncomputable section

namespace Cert.KernelPoint

open Idealize.ShloMosaic Cert.KernelIdeal Cert.KernelIdeal.Gen Cert.Threefry Cert.KernelBits Cert.Spec

variable [Cert.KernelIdeal.Facts]

/-- One round in the kernel's operations. -/
def round (a b : W) (p : W × W) : W × W :=
  (IntOp.addi p.1 p.2,
    IntOp.xori (IntOp.addi p.1 p.2) (IntOp.ori (IntOp.shli .vector p.2 a) (IntOp.shrui .vector p.2 b)))

theorem round_eq (a b : W) (ha : a.toNat < 32) (hb : b.toNat < 32) (p : W × W) : round a b p = mix a b p :=
  mix_eq rfl (rotate_vec a b ha hb _ _)

/-- The last four rounds, the last injection and the draw of a fraction. -/
theorem pay40_eq (k2 : W) (v173 v177 : IVec S64x2048 32) (j : S64x2048.Idx) :
    k0_pay40 (F := Ideal) k2 v173 v177 j
      = fraction (lastWord k2 (v173 j, v177 j)) * (lit 0x3F800000#32 - lit 0xBF7FFFFF#32) := by
  have h : lastWord k2 (v173 j, v177 j)
      = (inject k2 0#32 5#32 (round 6#32 26#32 (round 26#32 6#32 (round 15#32 17#32 (round 13#32 19#32 (v173 j, v177 j)))))).1
        ^^^ (inject k2 0#32 5#32 (round 6#32 26#32 (round 26#32 6#32 (round 15#32 17#32 (round 13#32 19#32 (v173 j, v177 j)))))).2 := by
    rw [round_eq 13#32 19#32 (by decide) (by decide), round_eq 15#32 17#32 (by decide) (by decide),
      round_eq 26#32 6#32 (by decide) (by decide), round_eq 6#32 26#32 (by decide) (by decide)]; rfl
  rw [h, fraction, ← shrui_eq .vector _ 9#32 (by decide)]
  rfl

/-- The random word of an entry of the block. -/
theorem word_eq (v34 v39 : IVec S64x2048 32) (j : S64x2048.Idx) (h39 : v39 j = 0#32 + 0#32)
    (v82 v83 v85 v130 v131 : IVec S64x2048 32)
    (h82 : v82 = k0_pay15 v34 (third 0#32 42#32) v39) (h83 : v83 = k0_pay16 v34 (third 0#32 42#32) v39)
    (h85 : v85 = k0_pay17 v34 (third 0#32 42#32) v39)
    (h130 : v130 = k0_pay28 (third 0#32 42#32) v82 v83 v85) (h131 : v131 = k0_pay29 (third 0#32 42#32) v82 v83 v85) :
    lastWord (third 0#32 42#32) (k0_pay38 v130 v131 6#32 j, k0_pay39 (third 0#32 42#32) v130 v131 6#32 j)
      = word (v34 j) := by
  rw [rounds_four v34 v39 _ j v82 v83 v85 v130 v131 h82 h83 h85 h130 h131, h39]
  rfl

/-- One step of Horner's scheme as the kernel takes it, the coefficient chosen by a mask. -/
def step (m : BitVec 1) (t p : EReal) (c c' : W) : EReal := Scalar.select m (lit c) (lit c') + p * t

theorem select_one (a b : EReal) : Scalar.select 1#1 a b = a := if_pos rfl

theorem select_zero (a b : EReal) : Scalar.select 0#1 a b = b := if_neg (by decide)

theorem step_one (t p : EReal) (c c' : W) : step 1#1 t p c c' = p * t + lit c := by
  rw [step, select_one, add_comm]

theorem step_zero (t p : EReal) (c c' : W) : step 0#1 t p c c' = p * t + lit c' := by
  rw [step, select_zero, add_comm]

/-- The factor of the inverse error function as the kernel computes it. -/
def kernelFactor (m : BitVec 1) (t : EReal) : EReal :=
  step m t (step m t (step m t (step m t (step m t (step m t (step m t (step m t
    (Scalar.select m (lit 0x32F16588#32) (lit 0xB951F09B#32)) 0x34B84B36#32 0x38D3B56B#32)
    0xB66C7357#32 0x3AB0DC72#32) 0xB6935AC1#32 0xBB70BDE7#32) 0x396532DB#32 0x3BBC127B#32)
    0xBAA45408#32 0xBBF9C5D7#32) 0xBB88E4EF#32 0x3C1AA57E#32) 0x3E7C8F63#32 0x3F8036DB#32) 0x3FC02E2F#32 0x40354F7E#32

/-- The noisy logit as the kernel computes it, from the logit, the noise's deviation, the drawn number, the mask and the
    argument of the polynomial. -/
def kernelScore (l sd u : EReal) (m : BitVec 1) (t : EReal) : EReal :=
  l + lit 0x3FB504F3#32 * Scalar.select (Ideal.cmp .oeq (max u (-u)) (lit 0x3F800000#32)) (lit 0x7F800000#32 * u)
    (kernelFactor m t * u) * sd

/-- The mask is the test of `w` against 5, and the polynomial's argument the one of the side it is on. -/
theorem kernelFactor_eq (w : EReal) (m : BitVec 1) (t : EReal) (hm : m = Ideal.cmp .olt w (lit 0x40A00000#32))
    (ht : t = Scalar.select m (w - lit 0x40200000#32) (Ideal.sqrt w - lit 0x40400000#32)) :
    kernelFactor m t = factor w := by
  by_cases h : w < lit 0x40A00000#32
  · have hm1 : m = 1#1 := by rw [hm]; simp [Ideal.cmp, h]
    subst hm1
    rw [factor, if_pos h, ht]
    simp only [kernelFactor, step_one, select_one]; rfl
  · have hm0 : m = 0#1 := by rw [hm]; simp [Ideal.cmp, h]
    subst hm0
    rw [factor, if_neg h, ht]
    simp only [kernelFactor, step_zero, select_zero]; rfl

/-- The kernel's noisy logit with its mask and argument is the specification's. -/
theorem kernelScore_eq (l sd u : EReal) (m : BitVec 1) (t : EReal)
    (hm : m = Ideal.cmp .olt (0 - Ideal.log1p (u * (0 - u))) (lit 0x40A00000#32))
    (ht : t = Scalar.select m (0 - Ideal.log1p (u * (0 - u)) - lit 0x40200000#32)
      (Ideal.sqrt (0 - Ideal.log1p (u * (0 - u))) - lit 0x40400000#32)) :
    kernelScore l sd u m t = l + lit 0x3FB504F3#32 * erfInv u * sd := by
  have hw : (0 : EReal) - Ideal.log1p (u * (0 - u)) = -Ideal.log1p (-(u * u)) := by
    rw [zero_sub, zero_sub, mul_neg]
  rw [hw] at hm ht
  rw [kernelScore, kernelFactor_eq _ m t hm ht, erfInv]
  by_cases h : max u (-u) = lit 0x3F800000#32
  · rw [if_pos h, show Ideal.cmp .oeq (max u (-u)) (lit 0x3F800000#32) = 1#1 from by
      rw [Ideal.cmp]; exact congrArg BitVec.ofBool (decide_eq_true h), select_one]
  · rw [if_neg h, show Ideal.cmp .oeq (max u (-u)) (lit 0x3F800000#32) = 0#1 from by
      rw [Ideal.cmp]; exact congrArg BitVec.ofBool (decide_eq_false h), select_zero]

/-- The block of noisy logits. -/
def scores (v6 v26 v226 : FVec Ideal S64x2048 .f32) (v234 : IVec S64x2048 1) (v240 : FVec Ideal S64x2048 .f32) :
    FVec Ideal S64x2048 .f32 :=
  fun j => kernelScore (v6 j) (v26 j) (v226 j) (v234 j) (v240 j)

/-- The block of indices is the least expert whose noisy logit is the greatest. -/
theorem pay46_eq (v6 v26 v222 : FVec Ideal S64x2048 .f32) :
    k0_pay46 (F := Ideal) v6 v26 (k0_pay41 v222) (k0_pay43 v222) (k0_pay44 v222) (k0_pay45 v222)
        (Scalar.ofBits .f32 0xBAA45408#32) (Scalar.ofBits .f32 0xBBF9C5D7#32)
      = shapeCast S1x2048 (multiReductionI .minsi [0] S2048
          (select (cmpf .oeq (scores v6 v26 (k0_pay41 v222) (k0_pay43 v222) (k0_pay44 v222))
              (broadcastTo S64x2048 (shapeCast S1x2048 (multiReduction .maximumf [0] S2048
                (scores v6 v26 (k0_pay41 v222) (k0_pay43 v222) (k0_pay44 v222)) 0xFF800000#32 reduces_S64x2048_S2048
                (.inl rfl) rfl) shapeCasts_S2048_S1x2048) broadcasts_S1x2048_S64x2048))
            (iota .tc S64x2048 32 [0] iota_S64x2048_d0_w32) (broadcast S64x2048 64#32))
          2147483647#32 reduces_S64x2048_S2048 rfl) shapeCasts_S2048_S1x2048 := rfl

end Cert.KernelPoint

end
-- ==== Proof.KernelSelect.lean ====
/-
  The kernel's choice of an expert at one token: the first expert with the greatest noisy logit, and the block that is one
  there and zero elsewhere.
-/
module

public import proofs.«01_k».proof.Proof.KernelPoint
public import Idealize.ShloMosaic.Lib.SortNet.Extract

@[expose] public section

set_option maxRecDepth 16384

noncomputable section

namespace Cert.KernelSelect

open Idealize.ShloMosaic Cert.KernelIdeal Cert.KernelIdeal.Gen Cert.Threefry Cert.KernelPoint Cert.Spec

/-- The literal of negative infinity. -/
theorem lit_bot : Ideal.ofBits .f32 0xFF800000#32 = ⊥ := by simp [Ideal.ofBits, Ideal.ieee]

/-- The greatest of a row of scores is the score of the best expert. -/
theorem fold_max_eq (s : Fin 64 → EReal) : Finset.fold max ⊥ s Finset.univ = s (best s) :=
  le_antisymm ((Finset.fold_max_le _).mpr ⟨bot_le, fun i _ => (best_spec s).1 i⟩)
    ((Finset.le_fold_max _).mpr (.inr ⟨best s, Finset.mem_univ _, le_rfl⟩))

/-- The least of the experts whose score is the greatest is the best expert. -/
theorem fold_min_eq (s : Fin 64 → EReal) :
    Finset.fold IntOp.minsi 2147483647#32 (fun e : Fin 64 => if s e = s (best s) then BitVec.ofNat 32 e else 64#32)
      Finset.univ = BitVec.ofNat 32 (best s) := by
  have hi : ∀ n : ℕ, n ≤ 64 → (BitVec.ofNat 32 n).toInt = n := fun n hn => by
    rw [BitVec.toInt_eq_toNat_cond, BitVec.toNat_ofNat]; omega
  apply BitVec.eq_of_toInt_eq
  rw [← Finset.fold_hom (op' := min) (m := BitVec.toInt) (fun x y => SortNet.toInt_minsi x y)]
  have hb := (best s).isLt
  rw [hi (best s) (by omega)]
  refine le_antisymm ((Finset.fold_min_le _).mpr (.inr ⟨best s, Finset.mem_univ _, ?_⟩))
    ((Finset.le_fold_min _).mpr ⟨?_, fun e _ => ?_⟩)
  · rw [if_pos rfl, hi (best s) (by omega)]
  · rw [show (BitVec.toInt 2147483647#32) = 2147483647 from rfl]; omega
  · split
    · rename_i h
      rw [hi e (by omega)]
      by_contra hlt
      have : e < best s := Fin.lt_def.mpr (by omega)
      exact absurd h ((best_spec s).2 e this).ne
    · rw [show (BitVec.toInt 64#32) = 64 from rfl]; omega

variable [Cert.KernelIdeal.Facts]

/-- The index of a token is the best expert of its column of noisy logits. -/
theorem index_eq (s : FVec Ideal S64x2048 .f32) (y : Fin 2048) :
    shapeCast S1x2048 (multiReductionI .minsi [0] S2048
        (select (cmpf .oeq s
            (broadcastTo S64x2048 (shapeCast S1x2048 (multiReduction .maximumf [0] S2048
              s 0xFF800000#32 reduces_S64x2048_S2048
              (.inl rfl) rfl) shapeCasts_S2048_S1x2048) broadcasts_S1x2048_S64x2048))
          (iota .tc S64x2048 32 [0] iota_S64x2048_d0_w32) (broadcast S64x2048 64#32))
        2147483647#32 reduces_S64x2048_S2048 rfl) shapeCasts_S2048_S1x2048 (ix2 0 y)
      = BitVec.ofNat 32 (best fun e => s (ix2 e y)) := by
  pointwise
  rw [lit_bot, fold_max_eq fun e => s (ix2 e y)]
  exact fold_min_eq fun e => s (ix2 e y)

/-- The block of probabilities is one at the token's index and zero elsewhere. -/
theorem onehot_eq (v6 v26 v226 v240 v263 : FVec Ideal S64x2048 .f32) (v234 : IVec S64x2048 1) (c c' : Ideal .f32)
    (e : Fin 64) (y : Fin 2048) (b : Fin 64)
    (hb : k0_pay46 (F := Ideal) v6 v26 v226 v234 v240 v263 c c' (ix2 0 y) = BitVec.ofNat 32 b) :
    k0_pay47 v6 v26 v226 v234 v240 v263 c c' (ix2 e y) = if e = b then (1 : EReal) else 0 := by
  rw [k0_pay47]
  generalize k0_pay46 v6 v26 v226 v234 v240 v263 c c' = z at *
  pointwise
  rw [hb]
  by_cases h : e = b
  · subst h
    rw [if_pos rfl, IntOp.cmpi_eq_self]
    show (((BitVec.setWidth 32 1#1).toInt : ℝ) : EReal) = 1
    norm_num
  · have hne : BitVec.ofNat 32 (e : ℕ) ≠ BitVec.ofNat 32 (b : ℕ) := fun h' => h (Fin.ext (by
      have := congrArg BitVec.toNat h'
      simp only [BitVec.toNat_ofNat] at this
      have := e.isLt; have := b.isLt; omega))
    rw [if_neg h]
    have : IntOp.cmpi .eq (BitVec.ofNat 32 (e : ℕ)) (BitVec.ofNat 32 (b : ℕ)) = 0#1 := by
      simp only [IntOp.cmpi, beq_eq_false_iff_ne.mpr hne]; rfl
    rw [this]
    show (((BitVec.setWidth 32 0#1).toInt : ℝ) : EReal) = 0
    norm_num

end Cert.KernelSelect

end
-- ==== Proof.KernelScore.lean ====
/-
  The kernel's noisy logits at one expert and one token.
-/
module

public import proofs.«01_k».proof.Proof.KernelSelect

@[expose] public section

set_option maxRecDepth 16384

noncomputable section

namespace Cert.KernelScore

open Idealize.ShloMosaic Cert.KernelIdeal Cert.KernelIdeal.Gen Cert.Threefry Cert.KernelPoint Cert.KernelBits Cert.Spec

/-- The literal of zero. -/
theorem lit_zero : Ideal.ofBits .f32 0x00000000#32 = 0 := by simp [Ideal.ofBits, Ideal.ieee]

variable [Cert.KernelIdeal.Facts]

/-- The logits of the block. -/
theorem logits_eq (x : Vec Ideal S2048x768 .f32) (w : Vec Ideal S64x768 .f32) (b : Vec Ideal S64 .f32) (e : Fin 64)
    (y : Fin 2048) :
    k0_pay1 x w b (ix2 e y) = affine (fun k => x (ix2 y k)) (fun k => w (ix2 e k)) (b (ix1 e)) := by
  rw [k0_pay1]
  pointwise
  exact congrArg (· + _) (Finset.sum_congr rfl fun k _ => mul_comm _ _)

/-- The deviations of the noise of the block. -/
theorem deviation_eq (x : Vec Ideal S2048x768 .f32) (w : Vec Ideal S64x768 .f32) (b : Vec Ideal S64 .f32) (e : Fin 64)
    (y : Fin 2048) :
    k0_pay2 x w b (ix2 e y) = softplus (affine (fun k => x (ix2 y k)) (fun k => w (ix2 e k)) (b (ix1 e))) := by
  rw [k0_pay2]
  pointwise
  rw [if_neg (by simp), zero_sub, show (∑ k, w (ix2 e k) * x (ix2 y k)) = ∑ k, x (ix2 y k) * w (ix2 e k) from
    Finset.sum_congr rfl fun k _ => mul_comm _ _]
  rfl

/-- The counter of an entry of the block. -/
theorem counter_eq (i : grid0.Coords) (e : Fin 64) (y : Fin 2048) :
    k0_pay3 i (ix2 e y) = BitVec.ofNat 32 (64 * (2048 * (i 0).val + y) + e) := by
  rw [k0_pay3]
  pointwise
  apply BitVec.eq_of_toNat_eq
  have he := e.isLt
  have hy := y.isLt
  simp only [IntOp.addi, IntOp.muli, Scalar.muli, BitVec.toNat_add, BitVec.toNat_mul, BitVec.toNat_ofNat]
  omega

/-- The row of noisy logits of a token of the block. -/
def row (i : grid0.Coords) (x : Vec Ideal S2048x768 .f32) (gw : Vec Ideal S64x768 .f32) (gb : Vec Ideal S64 .f32)
    (nw : Vec Ideal S64x768 .f32) (nb : Vec Ideal S64 .f32) (y : Fin 2048) (e : Fin 64) : EReal :=
  noisy (fun k => x (ix2 y k)) (fun k => gw (ix2 e k)) (gb (ix1 e)) (fun k => nw (ix2 e k)) (nb (ix1 e))
    (word (BitVec.ofNat 32 (64 * (2048 * (i 0).val + y) + e)))

/-- The drawn number of an entry. -/
theorem pay41_at (v : FVec Ideal S64x2048 .f32) (j : S64x2048.Idx) :
    k0_pay41 v j = max (lit 0xBF7FFFFF#32) (v j + lit 0xBF7FFFFF#32) := rfl

/-- The logarithm of an entry. -/
theorem pay42_at (v : FVec Ideal S64x2048 .f32) (j : S64x2048.Idx) :
    k0_pay42 v j = 0 - Ideal.log1p (k0_pay41 v j * (0 - k0_pay41 v j)) := by
  rw [← lit_zero]; rfl

/-- The test of the logarithm of an entry. -/
theorem pay43_at (v : FVec Ideal S64x2048 .f32) (j : S64x2048.Idx) :
    k0_pay43 v j = Ideal.cmp .olt (k0_pay42 v j) (lit 0x40A00000#32) := rfl

/-- The argument of the polynomial at an entry. -/
theorem pay44_at (v : FVec Ideal S64x2048 .f32) (j : S64x2048.Idx) :
    k0_pay44 v j = Scalar.select (k0_pay43 v j) (k0_pay42 v j - lit 0x40200000#32)
      (Ideal.sqrt (k0_pay42 v j) - lit 0x40400000#32) := rfl

/-- The third key word as the kernel computes it. -/
theorem key_eq : Scalar.xori (Scalar.xori 0#32 42#32) 466688986#32 = third 0#32 42#32 := rfl

/-- The fraction of an entry of the block, scaled. -/
theorem fraction_eq (i : grid0.Coords) (x : Vec Ideal S2048x768 .f32) (gw : Vec Ideal S64x768 .f32)
    (gb : Vec Ideal S64 .f32) (nw : Vec Ideal S64x768 .f32) (nb : Vec Ideal S64 .f32) (e : Fin 64) (y : Fin 2048) :
    k0_pay57 i x gw gb nw nb (ix2 e y)
      = fraction (word (BitVec.ofNat 32 (64 * (2048 * (i 0).val + y) + e))) * (lit 0x3F800000#32 - lit 0xBF7FFFFF#32) := by
  rw [k0_pay57, pay40_eq, key_eq, word_eq (k0_pay3 i) k0_pay4 (ix2 e y) (by rw [k0_pay4]; rfl)
    (k0_pay52 i x gw gb nw nb) (k0_pay53 i x gw gb nw nb) (k0_pay54 i x gw gb nw nb)
    (k0_pay55 i x gw gb nw nb) (k0_pay56 i x gw gb nw nb) (by rw [k0_pay52, k0_pay50, k0_pay51, key_eq])
    (by rw [k0_pay53, k0_pay50, k0_pay51, key_eq]) (by rw [k0_pay54, k0_pay50, k0_pay51, key_eq])
    (by rw [k0_pay55, key_eq]) (by rw [k0_pay56, key_eq]), counter_eq]

/-- The drawn numbers of the block. -/
theorem drawn_eq (i : grid0.Coords) (x : Vec Ideal S2048x768 .f32) (gw : Vec Ideal S64x768 .f32)
    (gb : Vec Ideal S64 .f32) (nw : Vec Ideal S64x768 .f32) (nb : Vec Ideal S64 .f32) (e : Fin 64) (y : Fin 2048) :
    k0_pay41 (k0_pay57 i x gw gb nw nb) (ix2 e y)
      = uniform (word (BitVec.ofNat 32 (64 * (2048 * (i 0).val + y) + e))) := by
  rw [pay41_at, fraction_eq, uniform]

/-- The noisy logits of the block are the specification's. -/
theorem scores_eq (i : grid0.Coords) (x : Vec Ideal S2048x768 .f32) (gw : Vec Ideal S64x768 .f32)
    (gb : Vec Ideal S64 .f32) (nw : Vec Ideal S64x768 .f32) (nb : Vec Ideal S64 .f32) (e : Fin 64) (y : Fin 2048) :
    scores (k0_pay48 i x gw gb nw nb) (k0_pay49 i x gw gb nw nb) (k0_pay41 (k0_pay57 i x gw gb nw nb))
        (k0_pay43 (k0_pay57 i x gw gb nw nb)) (k0_pay44 (k0_pay57 i x gw gb nw nb)) (ix2 e y)
      = row i (View.ld x r0_0) (View.ld gw r0_1) (View.ld gb r0_2) (View.ld nw r0_1) (View.ld nb r0_2) y e := by
  rw [scores, kernelScore_eq _ _ _ _ _ (by rw [← pay42_at, pay43_at]) (by rw [← pay42_at, pay44_at]), drawn_eq, row,
    noisy, normal, k0_pay48, k0_pay49, logits_eq, deviation_eq]

/-- The block of indices holds each token's best expert. -/
theorem out6_eq (i : grid0.Coords) (x : Vec Ideal S2048x768 .f32) (gw : Vec Ideal S64x768 .f32)
    (gb : Vec Ideal S64 .f32) (nw : Vec Ideal S64x768 .f32) (nb : Vec Ideal S64 .f32) (y : Fin 2048) :
    k0_pay46 (k0_pay48 i x gw gb nw nb) (k0_pay49 i x gw gb nw nb) (k0_pay58 i x gw gb nw nb)
        (k0_pay59 i x gw gb nw nb) (k0_pay60 i x gw gb nw nb) (k0_pay61 i x gw gb nw nb)
        (Scalar.ofBits .f32 0xBAA45408#32) (Scalar.ofBits .f32 0xBBF9C5D7#32) (ix2 0 y)
      = BitVec.ofNat 32 (best
          (row i (View.ld x r0_0) (View.ld gw r0_1) (View.ld gb r0_2) (View.ld nw r0_1) (View.ld nb r0_2) y)) := by
  rw [k0_pay58, k0_pay59, k0_pay60, k0_pay61, pay46_eq, KernelSelect.index_eq]
  exact congrArg (fun s => BitVec.ofNat 32 (best s)) (funext fun e => scores_eq i x gw gb nw nb e y)

/-- The block of probabilities is one at each token's best expert and zero elsewhere. -/
theorem out5_eq (i : grid0.Coords) (x : Vec Ideal S2048x768 .f32) (gw : Vec Ideal S64x768 .f32)
    (gb : Vec Ideal S64 .f32) (nw : Vec Ideal S64x768 .f32) (nb : Vec Ideal S64 .f32) (e : Fin 64) (y : Fin 2048) :
    k0_pay47 (k0_pay48 i x gw gb nw nb) (k0_pay49 i x gw gb nw nb) (k0_pay58 i x gw gb nw nb)
        (k0_pay59 i x gw gb nw nb) (k0_pay60 i x gw gb nw nb) (k0_pay61 i x gw gb nw nb)
        (Scalar.ofBits .f32 0xBAA45408#32) (Scalar.ofBits .f32 0xBBF9C5D7#32) (ix2 e y)
      = if e = best
          (row i (View.ld x r0_0) (View.ld gw r0_1) (View.ld gb r0_2) (View.ld nw r0_1) (View.ld nb r0_2) y)
        then (1 : EReal) else 0 :=
  KernelSelect.onehot_eq _ _ _ _ _ _ _ _ e y _ (out6_eq i x gw gb nw nb y)

end Cert.KernelScore

end
-- ==== Proof.KernelValue.lean ====
/-
  The arrays that the kernel leaves: every token's probabilities, and its index.
-/
module

public import proofs.«01_k».proof.Proof.KernelScore
public import proofs.«01_k».proof.Proof.Gen.KernelIdeal.Run

@[expose] public section

set_option maxRecDepth 16384

noncomputable section

namespace Cert.KernelValue

open Idealize.ShloMosaic Idealize.ShloMosaic.TcCoe Cert.KernelIdeal Cert.KernelIdeal.Gen Cert.Spec Cert.KernelScore

variable (m : (ℓ : Loc nD τ sig) → Buf (Elt Ideal) ℓ)

/-- The noisy logits of a token, from the arguments on a device. -/
def logits (c : Dev nD) (n : Fin 32768) (e : Fin 64) : EReal :=
  tokenRow (fun n k => m (c.tc.loc main_arg0) (ix2 n k)) (fun e k => m (c.tc.loc main_arg1) (ix2 e k))
    (fun e => m (c.tc.loc main_arg2) (ix1 e)) (fun e k => m (c.tc.loc main_arg3) (ix2 e k))
    (fun e => m (c.tc.loc main_arg4) (ix1 e)) n e

/-- Where the blocks of the windows stand at a point. -/
theorem index_eq : ∀ t : Fin cfg0.N, win0_0.index t = ![t.val, 0] ∧ win0_1.index t = ![0, 0] ∧ win0_2.index t = ![0] ∧
    win0_3.index t = ![0, 0] ∧ win0_4.index t = ![0] ∧ win0_5.index t = ![0, t.val] ∧ win0_6.index t = ![0, t.val] ∧
    (grid0.coords t 0).val = t.val := by
  decide +kernel

/-- A token's row of a point's block is the row of its place among all tokens. -/
theorem row_eq (c : Dev nD) (t : Fin cfg0.N) (y : Fin 2048) (n : Fin 32768) (hn : n.val = 2048 * t.val + y) :
    row (grid0.coords t) (View.ld (iblk m c 0 t) r0_0) (View.ld (iblk m c 1 t) r0_1) (View.ld (iblk m c 2 t) r0_2)
      (View.ld (iblk m c 3 t) r0_1) (View.ld (iblk m c 4 t) r0_2) y = logits m c n := by
  funext e
  obtain ⟨h0, h1, h2, h3, h4, -, -, hg⟩ := index_eq t
  rw [row, logits, tokenRow, hg, hn]
  pointwise
  congr 1 <;> first | (funext k; blk_ext [iblk, V, h0, h1, h3, hn]) | (blk_ext [iblk, V, h2, h4])

/-- The probabilities that a point leaves. -/
theorem probs_block (c : Dev nD) (t : Fin cfg0.N) (e : Fin 64) (z : Fin 2048) (a : Fin 64) (n : Fin 32768) (ha : a = e)
    (hn : n.val = 2048 * t.val + z) :
    out0_5 (grid0.coords t) (iblk m c 0 t) (iblk m c 1 t) (iblk m c 2 t) (iblk m c 3 t) (iblk m c 4 t) (ix2 e z)
      = if a = best (logits m c n) then (1 : EReal) else 0 := by
  frame_out
  subst ha
  rw [← row_eq m c t z n hn]
  exact out5_eq (grid0.coords t) _ _ _ _ _ a z

/-- The indices that a point leaves. -/
theorem index_block (c : Dev nD) (t : Fin cfg0.N) (z : Fin 2048) (n : Fin 32768) (hn : n.val = 2048 * t.val + z) :
    out0_6 (grid0.coords t) (iblk m c 0 t) (iblk m c 1 t) (iblk m c 2 t) (iblk m c 3 t) (iblk m c 4 t) (ix2 0 z)
      = BitVec.ofNat 32 (best (logits m c n)) := by
  frame_out
  rw [← row_eq m c t z n hn]
  exact out6_eq (grid0.coords t) _ _ _ _ _ z

/-- The array of probabilities is one at each token's best expert and zero elsewhere. -/
theorem probs_array (c : Dev nD) : Value.reg_main_v0_0 m c
    = fun j => if j 0 = best (logits m c (j 1)) then (1 : EReal) else 0 := by
  refine (dats m 0 c).arrAt_eq_of_covers 5 _ (by decide +kernel) fun t hf y => ?_
  blk_simp
  rw [after0_5]
  obtain ⟨e, z, rfl⟩ : ∃ (e : Fin 64) (z : Fin 2048), y = ix2 e z := ⟨y 0, y 1, eq_ix2 y⟩
  obtain ⟨-, -, -, -, -, h5, -, -⟩ := index_eq t
  have h0 : ((View.whole main_v0_0).slice (win0_5.rect t)).emb (ix2 e z) 0 = e := by
    apply Fin.ext
    blk_simp [h5]
  have h1 : ((((View.whole main_v0_0).slice (win0_5.rect t)).emb (ix2 e z) 1 : Fin 32768) : ℕ) = 2048 * t.val + z := by
    blk_simp [h5]
    omega
  exact probs_block m c t e z _ _ h0 h1

/-- The array of indices holds each token's best expert. -/
theorem index_array (c : Dev nD) : Value.reg_main_v0_1 m c
    = fun j => BitVec.ofNat 32 (best (logits m c (j 1))) := by
  refine (dats m 0 c).arrAt_eq_of_covers 6 _ (by decide +kernel) fun t hf y => ?_
  blk_simp
  rw [after0_6]
  obtain ⟨e, z, rfl⟩ : ∃ (e : Fin 1) (z : Fin 2048), y = ix2 e z := ⟨y 0, y 1, eq_ix2 y⟩
  obtain rfl : e = 0 := Subsingleton.elim _ _
  obtain ⟨-, -, -, -, -, -, h6, -⟩ := index_eq t
  have h1 : ((((View.whole main_v0_1).slice (win0_6.rect t)).emb (ix2 0 z) 1 : Fin 32768) : ℕ) = 2048 * t.val + z := by
    blk_simp [h6]
    omega
  exact index_block m c t z _ h1

/-- The first result is one at each token's best expert and zero elsewhere. -/
theorem probs_result (c : Dev nD) (n : Fin 32768) (e : Fin 64) :
    transpose S32768x64 [1, 0] (Value.reg_main_v0_0 m c) transposes_S64x32768_S32768x64_1_0 (ix2 n e)
      = if e = best (logits m c n) then (1 : EReal) else 0 := by
  rw [probs_array]
  pointwise

/-- The second result holds each token's best expert. -/
theorem index_result (c : Dev nD) (n : Fin 32768) :
    transpose S32768x1 [1, 0] (Value.reg_main_v0_1 m c) transposes_S1x32768_S32768x1_1_0 (ix2 n 0)
      = BitVec.ofNat 32 (best (logits m c n)) := by
  rw [index_array]
  pointwise

end Cert.KernelValue

end
-- ==== Proof.RefBits.lean ====
/-
  The reference's counter generator: what the equations of its printed lines say of its two words at an index.
-/
module

public import proofs.«01_k».proof.Proof.RefLine
public import proofs.«01_k».proof.Proof.Threefry
public import Idealize.ShloMosaic.Lib.Pointwise

@[expose] public section

set_option maxRecDepth 16384

noncomputable section

namespace Cert.RefBits

open Idealize.ShloMosaic Idealize.ShloMosaic.StableHlo Idealize.SL.Sem Cert.Equations Cert.ReferenceIdeal Cert.Threefry

open Facts₀ Facts

variable [Cert.ReferenceIdeal.Facts] {F : FTy → Type} [FloatOps F]

/-- A program of the reference. -/
abbrev Program (F : FTy → Type) [FloatOps F] :=
  Prog (TpuEff nD τ sig (Elt F) (Pipeline.Sig Λ₀ (Fin 0) fun p => (pcfgs (F := F) p).Adm) .tc) PUnit

/-- A buffer that holds a block of words. -/
abbrev Block := TRef sig ⟨S32768x64, .i32⟩

/-- A buffer that holds one word. -/
abbrev Single := TRef sig ⟨S_, .i32⟩

/-- The only entry of a word alone. -/
def key (V : Valuation τ sig (Elt F)) (k : Single) : W := rd V k ix0

/-- A word spread over the block is the word at every entry. -/
theorem spread (x : IVec S_ 32) (i : S32768x64.Idx) :
    broadcastInDim S32768x64 ![] bcast_S_S32768x64 x i = x ix0 := congrArg x (funext fun a => a.elim0)

/-- The lines of a rotation, and of the exclusive or with the sum. -/
theorem sat_rotate {V : Valuation τ sig (Elt F)} {a b : W} {c c' : Single} {s t u v w x y o : Block} {q : Program F}
    (ha : a.toNat < 32) (hb : b.toNat < 32)
    (h : Sat V (
      (hlo rfl (TRef.nullary c (constantI S_ 32 a)) fun _ => .ret (⟨⟩ : PUnit)) >>= fun _ =>
      (hlo rfl (TRef.unary c s (broadcastInDim S32768x64 ![] bcast_S_S32768x64)) fun _ => .ret (⟨⟩ : PUnit)) >>= fun _ =>
      (hlo rfl (TRef.binary y s t Host.shli) fun _ => .ret (⟨⟩ : PUnit)) >>= fun _ =>
      (hlo rfl (TRef.nullary c' (constantI S_ 32 b)) fun _ => .ret (⟨⟩ : PUnit)) >>= fun _ =>
      (hlo rfl (TRef.unary c' u (broadcastInDim S32768x64 ![] bcast_S_S32768x64)) fun _ => .ret (⟨⟩ : PUnit)) >>= fun _ =>
      (hlo rfl (TRef.binary y u v Host.shrui) fun _ => .ret (⟨⟩ : PUnit)) >>= fun _ =>
      (hlo rfl (TRef.binary t v w ori) fun _ => .ret (⟨⟩ : PUnit)) >>= fun _ =>
      (hlo rfl (TRef.binary x w o xori) fun _ => .ret (⟨⟩ : PUnit)) >>= fun _ => q)) :
    (∀ i, (rd V o i : W) = rd V x i ^^^ rotate a b (rd V y i)) ∧ Sat V q := by
  obtain ⟨h1, h⟩ := line_nullary h
  obtain ⟨h2, h⟩ := line_unary h
  obtain ⟨h3, h⟩ := line_binary h
  obtain ⟨h4, h⟩ := line_nullary h
  obtain ⟨h5, h⟩ := line_unary h
  obtain ⟨h6, h⟩ := line_binary h
  obtain ⟨h7, h⟩ := line_binary h
  obtain ⟨h8, h⟩ := line_binary h
  refine ⟨fun i => ?_, h⟩
  have e1 : (rd V t i : W) = rd V y i <<< a := by
    rw [h3, h2, h1]
    exact (congrArg (IntOp.shli .host (rd V y i : W)) (spread _ i)).trans (shli_eq _ _ _ ha)
  have e2 : (rd V v i : W) = rd V y i >>> b := by
    rw [h6, h5, h4]
    exact (congrArg (IntOp.shrui .host (rd V y i : W)) (spread _ i)).trans (shrui_eq _ _ _ hb)
  rw [h8, h7]
  show (rd V x i : W) ^^^ (rd V t i ||| rd V v i : W) = _
  rw [e1, e2]
  rfl

/-- The lines of a round. -/
theorem sat_round {V : Valuation τ sig (Elt F)} {a b : W} {c c' : Single} {s t u v w x y z o : Block} {q : Program F}
    (ha : a.toNat < 32) (hb : b.toNat < 32)
    (h : Sat V (
      (hlo rfl (TRef.binary x y z addi) fun _ => .ret (⟨⟩ : PUnit)) >>= fun _ =>
      (hlo rfl (TRef.nullary c (constantI S_ 32 a)) fun _ => .ret (⟨⟩ : PUnit)) >>= fun _ =>
      (hlo rfl (TRef.unary c s (broadcastInDim S32768x64 ![] bcast_S_S32768x64)) fun _ => .ret (⟨⟩ : PUnit)) >>= fun _ =>
      (hlo rfl (TRef.binary y s t Host.shli) fun _ => .ret (⟨⟩ : PUnit)) >>= fun _ =>
      (hlo rfl (TRef.nullary c' (constantI S_ 32 b)) fun _ => .ret (⟨⟩ : PUnit)) >>= fun _ =>
      (hlo rfl (TRef.unary c' u (broadcastInDim S32768x64 ![] bcast_S_S32768x64)) fun _ => .ret (⟨⟩ : PUnit)) >>= fun _ =>
      (hlo rfl (TRef.binary y u v Host.shrui) fun _ => .ret (⟨⟩ : PUnit)) >>= fun _ =>
      (hlo rfl (TRef.binary t v w ori) fun _ => .ret (⟨⟩ : PUnit)) >>= fun _ =>
      (hlo rfl (TRef.binary z w o xori) fun _ => .ret (⟨⟩ : PUnit)) >>= fun _ => q)) :
    (∀ i, ((rd V z i, rd V o i) : W × W) = mix a b (rd V x i, rd V y i)) ∧ Sat V q := by
  obtain ⟨h1, h⟩ := line_binary h
  obtain ⟨h2, h⟩ := sat_rotate ha hb h
  exact ⟨fun i => mix_eq (congrFun h1 i) (h2 i), h⟩

/-- The lines of an injection. -/
theorem sat_inject {V : Valuation τ sig (Elt F)} {n : W} {c k l : Single} {s t u v x y o p : Block} {q : Program F}
    (h : Sat V (
      (hlo rfl (TRef.unary k s (broadcastInDim S32768x64 ![] bcast_S_S32768x64)) fun _ => .ret (⟨⟩ : PUnit)) >>= fun _ =>
      (hlo rfl (TRef.binary x s o addi) fun _ => .ret (⟨⟩ : PUnit)) >>= fun _ =>
      (hlo rfl (TRef.unary l t (broadcastInDim S32768x64 ![] bcast_S_S32768x64)) fun _ => .ret (⟨⟩ : PUnit)) >>= fun _ =>
      (hlo rfl (TRef.binary y t u addi) fun _ => .ret (⟨⟩ : PUnit)) >>= fun _ =>
      (hlo rfl (TRef.nullary c (constantI S_ 32 n)) fun _ => .ret (⟨⟩ : PUnit)) >>= fun _ =>
      (hlo rfl (TRef.unary c v (broadcastInDim S32768x64 ![] bcast_S_S32768x64)) fun _ => .ret (⟨⟩ : PUnit)) >>= fun _ =>
      (hlo rfl (TRef.binary u v p addi) fun _ => .ret (⟨⟩ : PUnit)) >>= fun _ => q)) :
    (∀ i, ((rd V o i, rd V p i) : W × W) = inject (key V k) (key V l) n (rd V x i, rd V y i)) ∧ Sat V q := by
  obtain ⟨h1, h⟩ := line_unary h
  obtain ⟨h2, h⟩ := line_binary h
  obtain ⟨h3, h⟩ := line_unary h
  obtain ⟨h4, h⟩ := line_binary h
  obtain ⟨h5, h⟩ := line_nullary h
  obtain ⟨h6, h⟩ := line_unary h
  obtain ⟨h7, h⟩ := line_binary h
  refine ⟨fun i => inject_eq ?_ ?_, h⟩
  · rw [h2, h1]
    exact congrArg ((rd V x i : W) + ·) (spread _ i)
  · rw [h7, h4, h3, h6, h5]
    show (rd V y i : W) + broadcastInDim S32768x64 ![] bcast_S_S32768x64 (rd V l) i
      + broadcastInDim S32768x64 ![] bcast_S_S32768x64 (constantI S_ 32 n) i = _
    rw [spread, spread]
    rfl

variable {V : Valuation τ sig (Elt F)} {k0 k1 : Single} {c0 c1 : Block} {φ : fn_threefry2x32.Bufs}

/-- Statements 1 to 60 of the generator. -/
theorem part0 (h : Sat V (fn_threefry2x32.body_part0 (F := F) k0 k1 c0 c1 φ)) :
    key V φ.v1 = third (key V k0) (key V k1) ∧ ∀ i,
      ((rd V φ.v40 i, rd V φ.v46 i) : W × W) = mix 17#32 15#32 (inject (key V k1) (key V φ.v1) 1#32
        (evens (rd V c0 i + key V k0, rd V c1 i + key V k1))) ∧
      (rd V φ.v47 i : W) = rd V φ.v40 i + rd V φ.v46 i := by
  unfold fn_threefry2x32.body_part0 at h
  obtain ⟨h0, h⟩ := line_binary h
  obtain ⟨hc, h⟩ := line_nullary h
  obtain ⟨h1, h⟩ := line_binary h
  obtain ⟨h2, h⟩ := line_unary h
  obtain ⟨h3, h⟩ := line_binary h
  obtain ⟨h4, h⟩ := line_unary h
  obtain ⟨h5, h⟩ := line_binary h
  obtain ⟨r1, h⟩ := sat_round (by decide) (by decide) h
  obtain ⟨r2, h⟩ := sat_round (by decide) (by decide) h
  obtain ⟨r3, h⟩ := sat_round (by decide) (by decide) h
  obtain ⟨r4, h⟩ := sat_round (by decide) (by decide) h
  obtain ⟨r5, h⟩ := sat_inject h
  obtain ⟨r6, h⟩ := sat_round (by decide) (by decide) h
  have h47 := (line_binary (q := .ret ⟨⟩) h).1
  refine ⟨?_, fun i => ⟨?_, congrFun h47 i⟩⟩
  · rw [key, h1, h0, hc]; rfl
  · have e3 : (rd V φ.v3 i : W) = rd V c0 i + key V k0 := by
      rw [h3, h2]; exact congrArg ((rd V c0 i : W) + ·) (spread _ i)
    have e5 : (rd V φ.v5 i : W) = rd V c1 i + key V k1 := by
      rw [h5, h4]; exact congrArg ((rd V c1 i : W) + ·) (spread _ i)
    rw [r6, r5, r4, r3, r2, r1, e3, e5]; rfl

/-- Statements 61 to 120 of the generator. -/
theorem part1 (h : Sat V (fn_threefry2x32.body_part1 (F := F) k0 k1 c0 c1 φ)) (i : S32768x64.Idx) (p : W × W)
    (hp : ((rd V φ.v40 i, rd V φ.v46 i) : W × W) = mix 17#32 15#32 p)
    (hs : (rd V φ.v47 i : W) = rd V φ.v40 i + rd V φ.v46 i) :
    ((rd V φ.v88 i, rd V φ.v94 i) : W × W) = mix 26#32 6#32 (mix 15#32 17#32 (mix 13#32 19#32
      (inject (key V φ.v1) (key V k0) 2#32 (odds p)))) := by
  unfold fn_threefry2x32.body_part1 at h
  obtain ⟨r1, h⟩ := sat_rotate (by decide) (by decide) h
  obtain ⟨r2, h⟩ := sat_round (by decide) (by decide) h
  obtain ⟨r3, h⟩ := sat_round (by decide) (by decide) h
  obtain ⟨r4, h⟩ := sat_inject h
  obtain ⟨r5, h⟩ := sat_round (by decide) (by decide) h
  obtain ⟨r6, h⟩ := sat_round (by decide) (by decide) h
  have r7 := (sat_round (q := .ret ⟨⟩) (by decide) (by decide) h).1
  rw [r7, r6, r5, r4, r3, r2, mix_eq hs (r1 i), hp]; rfl

/-- Statements 121 to 180 of the generator. -/
theorem part2 (h : Sat V (fn_threefry2x32.body_part2 (F := F) k0 k1 c0 c1 φ)) (i : S32768x64.Idx) :
    ((rd V φ.v137 i, rd V φ.v141 i) : W × W) = inject (key V k1) (key V φ.v1) 4#32 (odds
      (inject (key V k0) (key V k1) 3#32 (mix 6#32 26#32 (rd V φ.v88 i, rd V φ.v94 i)))) ∧
    (rd V φ.v142 i : W) = rd V φ.v137 i + rd V φ.v141 i := by
  unfold fn_threefry2x32.body_part2 at h
  obtain ⟨r1, h⟩ := sat_round (by decide) (by decide) h
  obtain ⟨r2, h⟩ := sat_inject h
  obtain ⟨r3, h⟩ := sat_round (by decide) (by decide) h
  obtain ⟨r4, h⟩ := sat_round (by decide) (by decide) h
  obtain ⟨r5, h⟩ := sat_round (by decide) (by decide) h
  obtain ⟨r6, h⟩ := sat_round (by decide) (by decide) h
  obtain ⟨r7, h⟩ := sat_inject h
  have h142 := (line_binary (q := .ret ⟨⟩) h).1
  refine ⟨?_, congrFun h142 i⟩
  rw [r7, r6, r5, r4, r3, r2, r1]; rfl

/-- Statements 181 to 223 of the generator. -/
theorem part3 (h : Sat V (fn_threefry2x32.body_part3 (F := F) k0 k1 c0 c1 φ)) (i : S32768x64.Idx)
    (hs : (rd V φ.v142 i : W) = rd V φ.v137 i + rd V φ.v141 i) :
    ((rd V φ.v171 i, rd V φ.v175 i) : W × W) = inject (key V φ.v1) (key V k0) 5#32 (evens
      (rd V φ.v137 i, rd V φ.v141 i)) := by
  unfold fn_threefry2x32.body_part3 at h
  obtain ⟨r1, h⟩ := sat_rotate (by decide) (by decide) h
  obtain ⟨r2, h⟩ := sat_round (by decide) (by decide) h
  obtain ⟨r3, h⟩ := sat_round (by decide) (by decide) h
  obtain ⟨r4, h⟩ := sat_round (by decide) (by decide) h
  obtain ⟨r5, h⟩ := sat_inject h
  rw [r5, r4, r3, r2, mix_eq hs (r1 i)]; rfl

/-- The generator's two words at an entry are the generator of the key's and the counter's words there. -/
theorem words
    (h : Sat V (fn_threefry2x32.body (F := F) main_call1.v4 main_call1.v6 main_call1.v17 main_call1.v16 main_call1_call0))
    (i : S32768x64.Idx) :
    ((rd V main_call1_call0.v171 i, rd V main_call1_call0.v175 i) : W × W)
      = threefry (key V main_call1.v4) (key V main_call1.v6) (rd V main_call1.v17 i, rd V main_call1.v16 i) := by
  unfold fn_threefry2x32.body at h
  obtain ⟨h0, h⟩ := (sat_bind V RefLine.threefry_line0.straight _).mp h
  obtain ⟨h1, h⟩ := (sat_bind V RefLine.threefry_line1.straight _).mp h
  obtain ⟨h2, h3⟩ := (sat_bind V RefLine.threefry_line2.straight _).mp h
  obtain ⟨e1, e0⟩ := part0 h0
  obtain ⟨p0, s0⟩ := e0 i
  have p1 := part1 h1 i _ p0 s0
  obtain ⟨p2, s2⟩ := part2 h2 i
  rw [part3 h3 i s2, p2, p1, e1]
  rfl

end Cert.RefBits

end
-- ==== Proof.RefCalls.lean ====
/-
  What the reference's functions leave at an entry: softplus, the selection and the drawn numbers.
-/
module

public import proofs.«01_k».proof.Proof.RefBits
public import proofs.«01_k».proof.Proof.Spec
public import Idealize.ShloMosaic.Lib.Tactic.CleanTypes

@[expose] public section

set_option maxRecDepth 16384

noncomputable section

namespace Cert.RefCalls

open Idealize.ShloMosaic Idealize.ShloMosaic.StableHlo Idealize.SL.Sem Cert.Equations Cert.ReferenceIdeal Cert.Threefry
  Cert.Spec Cert.RefBits

open Facts₀ Facts

variable [Cert.ReferenceIdeal.Facts] {V : Valuation τ sig (Elt Ideal)}

/-- The function softplus at an entry. -/
theorem softplus_value {a : TRef sig ⟨S32768x64, .f32⟩} {φ : fn_softplus.Bufs}
    (h : Sat V (fn_softplus.body (F := Ideal) a φ)) (n : Fin 32768) (e : Fin 64) :
    (rd V φ.v12 (ix2 n e) : EReal) = softplus (rd V a (ix2 n e)) := by
  unfold fn_softplus.body at h
  obtain ⟨hc, h⟩ := line_nullary h
  obtain ⟨h0, h⟩ := line_unary h
  obtain ⟨h1, h⟩ := line_binary h
  obtain ⟨h2, h⟩ := line_unary h
  obtain ⟨h3, h⟩ := line_binary h
  obtain ⟨h4, h⟩ := line_binary h
  obtain ⟨h5, h⟩ := line_unary h
  obtain ⟨h6, h⟩ := line_binary h
  obtain ⟨h7, h⟩ := line_unary h
  obtain ⟨h8, h⟩ := line_unary h
  obtain ⟨h9, h⟩ := line_unary h
  obtain ⟨h10, h⟩ := line_unary h
  obtain ⟨h11, h⟩ := line_binary h
  obtain ⟨h12, h⟩ := line_ternary h
  rw [h12, h11, h10, h9, h8, h7, h6, h5, h4, h3, h2, h1, h0, hc]
  generalize rd V a = z
  pointwise
  rw [if_neg (by simp)]
  rfl

/-- The selection between two blocks at an entry. -/
theorem where_value {c : TRef sig ⟨S32768x64, .i1⟩} {a b : TRef sig ⟨S32768x64, .f32⟩} {φ : fn_where.Bufs}
    (h : Sat V (fn_where.body (F := Ideal) c a b φ)) (j : S32768x64.Idx) :
    (rd V φ.v0 j : EReal) = Scalar.select (rd V c j : BitVec 1) (rd V a j : EReal) (rd V b j : EReal) := by
  unfold fn_where.body at h
  obtain ⟨h0, h⟩ := line_ternary h
  rw [h0]; rfl

/-- The drawn number at an entry, for the key (0, 42) and the bounds of the normal number. -/
theorem uniform_value
    (h : Sat V (fn_uniform.body (F := Ideal) (.of main_v17) (.of main_cst) (.of main_cst_2) main_call1))
    (h0 : (rd V (.of main_v17 : TRef sig ⟨S2, .i32⟩) : IVec S2 32) (ix1 0) = 0#32)
    (h1 : (rd V (.of main_v17 : TRef sig ⟨S2, .i32⟩) : IVec S2 32) (ix1 1) = 42#32)
    (hlo : rd V (.of main_cst : TRef sig ⟨S_, .f32⟩) = constant (F := Ideal) S_ .f32 0xBF7FFFFF#32)
    (hhi : rd V (.of main_cst_2 : TRef sig ⟨S_, .f32⟩) = constant (F := Ideal) S_ .f32 0x3F800000#32)
    (n : Fin 32768) (e : Fin 64) :
    (rd V (.of main_v18 : TRef sig ⟨S32768x64, .f32⟩) (ix2 n e) : EReal)
      = uniform (word (BitVec.ofNat 32 (64 * n + e))) := by
  unfold fn_uniform.body at h
  obtain ⟨a0, h⟩ := line_unary h
  obtain ⟨a1, h⟩ := line_unary h
  obtain ⟨a2, h⟩ := line_unary h
  obtain ⟨a3, h⟩ := line_unary h
  obtain ⟨a4, h⟩ := line_reshape h
  obtain ⟨a5, h⟩ := line_unary h
  obtain ⟨a6, h⟩ := line_reshape h
  obtain ⟨a7, h⟩ := line_nullary h
  obtain ⟨a8, h⟩ := line_nullary h
  obtain ⟨c, h⟩ := line_nullary h
  obtain ⟨a9, h⟩ := line_unary h
  obtain ⟨a10, h⟩ := line_binary h
  obtain ⟨c0, h⟩ := line_nullary h
  obtain ⟨a11, h⟩ := line_unary h
  obtain ⟨a12, h⟩ := line_binary h
  obtain ⟨a13, h⟩ := line_binary h
  obtain ⟨c1, h⟩ := line_nullary h
  obtain ⟨a14, h⟩ := line_unary h
  obtain ⟨a15, h⟩ := line_binary h
  obtain ⟨a16, h⟩ := line_unary h
  obtain ⟨a17, h⟩ := line_unary h
  obtain ⟨hw, h⟩ := (sat_bind V RefLine.threefry_line.straight _).mp h
  obtain ⟨a19, h⟩ := line_binary h
  obtain ⟨c2, h⟩ := line_nullary h
  obtain ⟨a20, h⟩ := line_unary h
  obtain ⟨a21, h⟩ := line_binary h
  obtain ⟨c3, h⟩ := line_nullary h
  obtain ⟨a22, h⟩ := line_unary h
  obtain ⟨a23, h⟩ := line_binary h
  obtain ⟨a24, h⟩ := line_unary h
  obtain ⟨ct, h⟩ := line_nullary h
  obtain ⟨a25, h⟩ := line_unary h
  obtain ⟨a26, h⟩ := line_binary h
  obtain ⟨a27, h⟩ := line_binary h
  obtain ⟨a28, h⟩ := line_unary h
  obtain ⟨a29, h⟩ := line_binary h
  obtain ⟨a30, h⟩ := line_unary h
  obtain ⟨a31, h⟩ := line_binary h
  obtain ⟨a32, h⟩ := line_unary h
  obtain ⟨a33, h⟩ := line_binary h
  have hw := words hw (ix2 n e)
  have e4 : key V main_call1.v4 = 0#32 := by
    rw [key, a4, a3, ← h0]
    generalize rd V (.of main_v17 : TRef sig ⟨S2, .i32⟩) = x
    clear * -
    pointwise
  have e6 : key V main_call1.v6 = 42#32 := by
    rw [key, a6, a5, ← h1]
    generalize rd V (.of main_v17 : TRef sig ⟨S2, .i32⟩) = x
    clear * -
    pointwise
  have e13 : (rd V main_call1.v13 (ix2 n e) : BitVec 64) = BitVec.ofNat 64 (64 * n + e) := by
    rw [a13, a12, a11, c0, a10, a9, c, a8, a7]
    clear * -
    pointwise
    apply BitVec.eq_of_toNat_eq
    simp only [IntOp.addi, IntOp.muli, BitVec.toNat_add, BitVec.toNat_mul, BitVec.toNat_ofNat]
    omega
  have e16 : (rd V main_call1.v16 (ix2 n e) : BitVec 32) = BitVec.ofNat 32 (64 * n + e) := by
    rw [a16]
    show BitVec.setWidth 32 (rd V main_call1.v13 (ix2 n e) : BitVec 64) = _
    rw [e13]
    clear * -
    apply BitVec.eq_of_toNat_eq
    have hn := n.isLt
    have he := e.isLt
    simp only [BitVec.toNat_setWidth, BitVec.toNat_ofNat]
    omega
  have e17 : (rd V main_call1.v17 (ix2 n e) : BitVec 32) = 0#32 := by
    rw [a17, a15, a14, c1]
    show BitVec.setWidth 32 (IntOp.shrui .host (rd V main_call1.v13 (ix2 n e) : BitVec 64) 32#64) = _
    rw [e13]
    clear * -
    rw [show IntOp.shrui .host (BitVec.ofNat 64 (64 * n + e)) 32#64 = BitVec.ofNat 64 (64 * n + e) >>> 32 from
      if_pos (by decide)]
    apply BitVec.eq_of_toNat_eq
    have hn := n.isLt
    have he := e.isLt
    simp only [BitVec.toNat_setWidth, BitVec.toNat_ofNat, BitVec.toNat_ushiftRight, Nat.shiftRight_eq_div_pow]
    omega
  rw [e4, e6, e16, e17] at hw
  have e19 : (rd V main_call1.v19 (ix2 n e) : BitVec 32) = word (BitVec.ofNat 32 (64 * n + e)) := by
    rw [a19, word, ← hw]; rfl
  have e26 : (rd V main_call1.v26 (ix2 n e) : EReal) = fraction (word (BitVec.ofNat 32 (64 * n + e))) := by
    rw [a26, a25, ct, a24, a23, a22, c3, a21, a20, c2, fraction, ← e19, ← shrui_eq .host _ 9#32 (by decide)]
    rfl
  show (rd V main_call1.v33 (ix2 n e) : EReal) = _
  rw [a33, a32, a31, a30, a29, a28, a27, uniform, ← e26, a2, a1, a0, hlo, hhi]
  generalize rd V main_call1.v26 = f
  clear * -
  pointwise
  rw [← Ideal.ofBits_one_f32]
  rfl

end Cert.RefCalls

end
-- ==== Proof.RefSelect.lean ====
/-
  The first greatest entry of a row by a stable sort, its place in an empty block, and the softmax of what results.
-/
module

public import proofs.«01_k».proof.Proof.Spec
public import proofs.«01_k».proof.Proof.KernelSelect
public import proofs.«01_k».proof.ReferenceIdeal
public import Idealize.ShloMosaic.Lib.Routing.OpsSet
public import Idealize.ShloMosaic.Lib.Routing.OpsPair
public import Idealize.ShloMosaic.Lib.Pointwise
public import Idealize.ShloMosaic.Lib.SortFacts

@[expose] public section

set_option maxRecDepth 16384

noncomputable section

namespace Cert.RefSelect

open Idealize.ShloMosaic Idealize.ShloMosaic.Routing Cert.ReferenceIdeal Cert.Spec

open Facts₀ Facts

variable [Cert.ReferenceIdeal.Facts]

/-- The head of a stably sorted list, greatest first, of increasing positions: the first position with the greatest
    score among them. -/
theorem head_sorted (s : Fin 64 → EReal) (l : List (Fin 64)) (hl : l.Pairwise (· < ·)) (hne : l ≠ []) :
    ∃ b t, stableSort (fun i j => decide (s j < s i)) l = b :: t ∧ (∀ i ∈ l, s i ≤ s b) ∧ ∀ i ∈ l, i < b → s i < s b := by
  induction l with
  | nil => exact absurd rfl hne
  | cons a l ih =>
    rw [List.pairwise_cons] at hl
    by_cases hn : l = []
    · subst hn
      refine ⟨a, [], rfl, fun i hi => ?_, fun i hi hlt => ?_⟩
      · rw [List.mem_singleton.mp hi]
      · rw [List.mem_singleton.mp hi] at hlt
        exact absurd hlt (lt_irrefl _)
    · obtain ⟨b, t, he, hge, hlt⟩ := ih hl.2 hn
      have hb : b ∈ l := (perm_stableSort _ l).mem_iff.mp (he ▸ List.mem_cons_self)
      by_cases hab : s a < s b
      · refine ⟨b, insertBefore (fun i j => decide (s j < s i)) a t, ?_, ?_, ?_⟩
        · rw [stableSort, he, insertBefore, if_pos (decide_eq_true hab)]
        · exact List.forall_mem_cons.mpr ⟨hab.le, hge⟩
        · exact List.forall_mem_cons.mpr ⟨fun _ => hab, hlt⟩
      · refine ⟨a, b :: t, ?_, ?_, ?_⟩
        · rw [stableSort, he, insertBefore, if_neg (by simpa using hab)]
        · exact List.forall_mem_cons.mpr ⟨le_rfl, fun i hi => (hge i hi).trans (not_lt.mp hab)⟩
        · exact List.forall_mem_cons.mpr ⟨fun h => absurd h (lt_irrefl _), fun i hi h => absurd h (hl.1 i hi).asymm⟩

/-- The first position of a row sorted stably, greatest first. -/
theorem sorted_first (s : Fin 64 → EReal) : sortedFrom (fun i j => decide (s j < s i)) 0 = best s := by
  obtain ⟨b, t, he, hge, hlt⟩ := head_sorted s (List.finRange 64) (List.pairwise_lt_finRange 64) (by decide)
  have hb : sortedFrom (fun i j => decide (s j < s i)) 0 = b := by
    have hp : sortPositions 64 (fun i j => decide (s j < s i)) = b :: t := he
    unfold sortedFrom
    rw [List.get_of_eq hp]
    rfl
  rw [hb]
  exact IsBest.unique ⟨fun i => hge i (List.mem_finRange i), fun i => hlt i (List.mem_finRange i)⟩ (best_spec s)

/-- The greatest entry of every row, and its position. -/
theorem topk_eq (x : S32768x64.Idx → EReal) (n : Fin 32768) :
    ((Host.topK S32768x1 1 (FloatOps.cmpfTotal (F := Ideal) (φ := .f32) .gt) x sliceFits_S32768x64_S32768x1).1
        (ix2 n (0 : Fin 1)) = x (ix2 n (best fun e => x (ix2 n e))))
      ∧ (Host.topK S32768x1 1 (FloatOps.cmpfTotal (F := Ideal) (φ := .f32) .gt) x sliceFits_S32768x64_S32768x1).2
        (ix2 n (0 : Fin 1)) = BitVec.ofNat 32 (best fun e => x (ix2 n e)) := by
  have key := sorted_first fun e => x (ix2 n e)
  have along : ∀ k : Fin 64, (ix2 n (0 : Fin 64) : S32768x64.Idx).along 1 k = ix2 n k := fun k => by
    funext a
    fin_cases a <;> rfl
  have cmp : ∀ a b : EReal, (FloatOps.cmpfTotal (F := Ideal) (φ := .f32) .gt a b == 1#1) = decide (b < a) := by
    intro a b
    show (BitVec.ofBool (decide (b < a)) == 1#1) = decide (b < a)
    cases decide (b < a) <;> rfl
  rw [Host.topK, Host.sort2, dif_pos (by decide)]
  dsimp only
  constructor
  · pointwise
    simp only [along, cmp]
    exact congrArg (fun k => x (ix2 n k)) key
  · pointwise
    simp only [along, cmp]
    exact congrArg (fun k : Fin 64 => BitVec.ofNat 32 k) key

/-- Entry `b n` of each row set, in a block that is −∞ elsewhere. -/
theorem placed (v : S32768x1.Idx → EReal) (idx : IVec S32768x1x2 32) (b : Fin 32768 → Fin 64)
    (h0 : ∀ n, idx (ix3 n (0 : Fin 1) (0 : Fin 2)) = BitVec.ofNat 32 n.val)
    (h1 : ∀ n, idx (ix3 n (0 : Fin 1) (1 : Fin 2)) = BitVec.ofNat 32 (b n).val) (x₀ : S32768x64.Idx → EReal)
    (n : Fin 32768) (e : Fin 64) :
    Host.scatter scatter_S32768x64_S32768x1x2_S32768x1_n_01_01_2 (fun _ b => b) x₀ idx v (ix2 n e)
      = if e = b n then v (ix2 n (0 : Fin 1)) else x₀ (ix2 n e) := by
  have small : ∀ k : Nat, k < 32768 → (BitVec.ofNat 32 k).toInt = (k : Int) := fun k hk => by
    rw [BitVec.toInt_eq_toNat_of_lt (by rw [BitVec.toNat_ofNat]; omega), BitVec.toNat_ofNat]; omega
  have lands : ∀ (k : S32768x1.Idx), scatter_S32768x64_S32768x1x2_S32768x1_n_01_01_2.resultIdx? k idx = some (ix2 n e)
      ↔ k = ix2 n (0 : Fin 1) ∧ b n = e := by
    intro k
    idx_vars k
    obtain rfl : k1 = 0 := Subsingleton.elim _ _
    have hk := k0.isLt
    have hb := (b k0).isLt
    refine (scatter_lands2 scatter_S32768x64_S32768x1x2_S32768x1_n_01_01_2 rfl rfl rfl idx k0 (0 : Fin 1) n e).trans ?_
    show (idx (ix3 k0 (0 : Fin 1) (0 : Fin 2))).toInt = _ ∧ (idx (ix3 k0 (0 : Fin 1) (1 : Fin 2))).toInt = _ ↔ _
    rw [h0, h1, small _ hk, small _ (by omega)]
    constructor
    · rintro ⟨p, q⟩
      obtain rfl : k0 = n := Fin.ext (by exact_mod_cast p)
      exact ⟨rfl, Fin.ext (by exact_mod_cast q)⟩
    · rintro ⟨p, q⟩
      obtain rfl : k0 = n := congrFun p 0
      exact ⟨rfl, by rw [q]⟩
  by_cases he : e = b n
  · rw [if_pos he]
    exact scatter_set_hit _ _ _ _ _ _ (fun k hk => by rw [((lands k).mp hk).1]) _ ((lands _).mpr ⟨rfl, he.symm⟩)
  · rw [if_neg he]
    exact scatter_set_miss _ _ _ _ _ fun k hk => he ((lands k).mp hk).2.symm

/-- The greatest entry of a row with one real entry, −∞ elsewhere. -/
theorem greatest_single (b : Fin 64) (r : ℝ) :
    Finset.fold max ⊥ (fun e : Fin 64 => if e = b then (r : EReal) else ⊥) Finset.univ = r := by
  rw [KernelSelect.fold_max_eq]
  have h := (best_spec fun e => if e = b then (r : EReal) else ⊥).1 b
  generalize best (fun e => if e = b then (r : EReal) else ⊥) = c at h ⊢
  dsimp only at h ⊢
  rw [if_pos rfl] at h
  refine le_antisymm ?_ h
  split
  · exact le_rfl
  · exact bot_le

/-- The softmax of a row with one real entry, −∞ elsewhere: 1 at that entry, 0 elsewhere. -/
theorem softmax_single (b e : Fin 64) (s : ℝ) :
    Ideal.div (Ideal.exp ((if e = b then (s : EReal) else ⊥) - s))
        (∑ i : Fin 64, Ideal.exp ((if i = b then (s : EReal) else ⊥) - s))
      = if e = b then 1 else 0 := by
  have h : ∀ i : Fin 64, Ideal.exp ((if i = b then (s : EReal) else ⊥) - s) = if i = b then 1 else 0 := by
    intro i
    by_cases h : i = b
    · rw [if_pos h, if_pos h, ← EReal.coe_sub, sub_self, Ideal.exp_coe, Real.exp_zero, EReal.coe_one]
    · rw [if_neg h, if_neg h, EReal.bot_sub, Ideal.exp_bot]
  simp only [h, Finset.sum_ite_eq', Finset.mem_univ, if_true]
  unfold Ideal.div
  rw [if_neg one_ne_zero, inv_one, mul_one]

end Cert.RefSelect

end
-- ==== Proof.RefMain.lean ====
/-
  The noisy logits that the reference's main function computes, entry by entry.
-/
module

public import proofs.«01_k».proof.Proof.RefCalls
public import proofs.«01_k».proof.Proof.RefSelect

@[expose] public section

set_option maxRecDepth 16384

noncomputable section

namespace Cert.RefMain

open Idealize.ShloMosaic Idealize.ShloMosaic.StableHlo Idealize.SL.Sem Cert.Equations Cert.ReferenceIdeal Cert.Threefry
  Cert.Spec Cert.RefBits Cert.RefCalls

open Facts₀ Facts

variable [Cert.ReferenceIdeal.Facts] {V : Valuation τ sig (Elt Ideal)}

/-- A line with no operand, and the rest. -/
theorem raw_nullary {y : Ref sig .tc} {v : y.ty.Contents (Elt Ideal)} {hy} {q : Program Ideal}
    (h : Sat V ((hlo rfl (nullary (τ := τ) y v hy) fun _ => .ret (⟨⟩ : PUnit)) >>= fun _ => q)) :
    V (Proc.devRef .tc y) = v ∧ Sat V q := ⟨fix_nullary h.1, h.2⟩

/-- A line with one operand, and the rest. -/
theorem raw_unary {x y : Ref sig .tc} {f : x.ty.Contents (Elt Ideal) → y.ty.Contents (Elt Ideal)} {hx hy}
    {q : Program Ideal}
    (h : Sat V ((hlo rfl (unary (τ := τ) x y f hx hy) fun _ => .ret (⟨⟩ : PUnit)) >>= fun _ => q)) :
    V (Proc.devRef .tc y) = f (V (Proc.devRef .tc x)) ∧ Sat V q := ⟨fix_unary h.1, h.2⟩

/-- A line with two operands, and the rest. -/
theorem raw_binary {a b y : Ref sig .tc}
    {f : a.ty.Contents (Elt Ideal) → b.ty.Contents (Elt Ideal) → y.ty.Contents (Elt Ideal)} {ha hb hy}
    {q : Program Ideal}
    (h : Sat V ((hlo rfl (binary (τ := τ) a b y f ha hb hy) fun _ => .ret (⟨⟩ : PUnit)) >>= fun _ => q)) :
    V (Proc.devRef .tc y) = f (V (Proc.devRef .tc a)) (V (Proc.devRef .tc b)) ∧ Sat V q := ⟨fix_binary h.1, h.2⟩

/-- A line with three operands, and the rest. -/
theorem raw_ternary {c a b y : Ref sig .tc}
    {f : c.ty.Contents (Elt Ideal) → a.ty.Contents (Elt Ideal) → b.ty.Contents (Elt Ideal) → y.ty.Contents (Elt Ideal)}
    {hc ha hb hy} {q : Program Ideal}
    (h : Sat V ((hlo rfl (ternary (τ := τ) c a b y f hc ha hb hy) fun _ => .ret (⟨⟩ : PUnit)) >>= fun _ => q)) :
    V (Proc.devRef .tc y) = f (V (Proc.devRef .tc c)) (V (Proc.devRef .tc a)) (V (Proc.devRef .tc b)) ∧ Sat V q :=
  ⟨fix_ternary h.1, h.2⟩

/-- A block of numbers, one per token and expert, that the program holds. -/
abbrev grid (V : Valuation τ sig (Elt Ideal)) (t : TRef sig ⟨S32768x64, .f32⟩) : S32768x64.Idx → EReal := rd V t

/-- A block of decisions, one per token and expert, that the program holds. -/
abbrev flags (V : Valuation τ sig (Elt Ideal)) (t : TRef sig ⟨S32768x64, .i1⟩) : S32768x64.Idx → BitVec 1 := rd V t

/-- The program's tokens. -/
abbrev tokens (V : Valuation τ sig (Elt Ideal)) (n : Fin 32768) (k : Fin 768) : EReal :=
  (rd V (.of main_arg0 : TRef sig ⟨S32768x768, .f32⟩) : S32768x768.Idx → EReal) (ix2 n k)

/-- A matrix of weights that the program is given. -/
abbrev weights (V : Valuation τ sig (Elt Ideal)) (t : TRef sig ⟨S64x768, .f32⟩) (e : Fin 64) (k : Fin 768) : EReal :=
  (rd V t : S64x768.Idx → EReal) (ix2 e k)

/-- A bias that the program is given. -/
abbrev bias (V : Valuation τ sig (Elt Ideal)) (t : TRef sig ⟨S64, .f32⟩) (e : Fin 64) : EReal :=
  (rd V t : S64.Idx → EReal) (ix1 e)

/-- The product with a transposed matrix of weights, and the bias, at an entry. -/
theorem affine_at (x : S32768x768.Idx → EReal) (w : S64x768.Idx → EReal) (b : S64.Idx → EReal) (n : Fin 32768)
    (e : Fin 64) :
    (addf (F := Ideal) (φ := .f32)
      (Host.dotGeneral (F := Ideal) (φ₁ := .f32) (φ₂ := .f32) dot_S32768x768_S768x64_S32768x64_1_0_0_1_n_n none x
        (transpose S768x64 [1, 0] w transposes_S64x768_S768x64_1_0))
      (broadcastInDim S32768x64 ![0, 1] bcast_S1x64_S32768x64_0_1 (broadcastInDim S1x64 ![1] bcast_S64_S1x64_1 b))
      (ix2 n e) : EReal)
      = affine (fun k => x (ix2 n k)) (fun k => w (ix2 e k)) (b (ix1 e)) := by
  pointwise
  rfl

/-- What the first part of the program leaves. -/
theorem part0_at (h : Sat V (main_part0 (F := Ideal) 0)) :
    (∀ n e, grid V (.of main_v4) (ix2 n e)
      = affine (tokens V n) (weights V (.of main_arg1) e) (bias V (.of main_arg2) e))
    ∧ (∀ n e, grid V (.of main_v10) (ix2 n e)
      = softplus (affine (tokens V n) (weights V (.of main_arg3) e) (bias V (.of main_arg4) e)))
    ∧ (∀ n e, grid V (.of main_v18) (ix2 n e) = uniform (word (BitVec.ofNat 32 (64 * n + e))))
    ∧ (∀ j, grid V (.of main_v22) j = -Ideal.log1p (-(grid V (.of main_v18) j * grid V (.of main_v18) j)))
    ∧ (∀ j, flags V (.of main_v24) j = Ideal.cmp .olt (grid V (.of main_v22) j) (lit 0x40A00000#32))
    ∧ (∀ j, grid V (.of main_v26) j = grid V (.of main_v22) j - lit 0x40200000#32)
    ∧ ∀ j, grid V (.of main_v45) j = poly (grid V (.of main_v26) j) 0x32F16588#32
        [0x34B84B36#32, 0xB66C7357#32, 0xB6935AC1#32, 0x396532DB#32, 0xBAA45408#32, 0xBB88E4EF#32] := by
  unfold main_part0 at h
  obtain ⟨v0, h⟩ := raw_unary h
  obtain ⟨v1, h⟩ := raw_binary h
  obtain ⟨v2, h⟩ := raw_unary h
  obtain ⟨v3, h⟩ := raw_unary h
  obtain ⟨v4, h⟩ := raw_binary h
  obtain ⟨v5, h⟩ := raw_unary h
  obtain ⟨v6, h⟩ := raw_binary h
  obtain ⟨v7, h⟩ := raw_unary h
  obtain ⟨v8, h⟩ := raw_unary h
  obtain ⟨v9, h⟩ := raw_binary h
  obtain ⟨csoftplus, h⟩ := (sat_bind V RefLine.softplus_line.straight _).mp h
  obtain ⟨c, h⟩ := raw_nullary h
  obtain ⟨c_0, h⟩ := raw_nullary h
  obtain ⟨v11, h⟩ := raw_binary h
  obtain ⟨v12, h⟩ := raw_unary h
  obtain ⟨v13, h⟩ := raw_unary h
  obtain ⟨c_1, h⟩ := raw_nullary h
  obtain ⟨v14, h⟩ := raw_binary h
  obtain ⟨v15, h⟩ := raw_unary h
  obtain ⟨v16, h⟩ := raw_unary h
  obtain ⟨v17, h⟩ := raw_binary h
  obtain ⟨cst, h⟩ := raw_nullary h
  obtain ⟨cst_2, h⟩ := raw_nullary h
  obtain ⟨cuniform, h⟩ := (sat_bind V RefLine.uniform_line.straight _).mp h
  obtain ⟨v19, h⟩ := raw_binary h
  obtain ⟨v20, h⟩ := raw_unary h
  obtain ⟨v21, h⟩ := raw_unary h
  obtain ⟨v22, h⟩ := raw_unary h
  obtain ⟨cst_3, h⟩ := raw_nullary h
  obtain ⟨v23, h⟩ := raw_unary h
  obtain ⟨v24, h⟩ := raw_binary h
  obtain ⟨cst_4, h⟩ := raw_nullary h
  obtain ⟨v25, h⟩ := raw_unary h
  obtain ⟨v26, h⟩ := raw_binary h
  obtain ⟨cst_5, h⟩ := raw_nullary h
  obtain ⟨v27, h⟩ := raw_unary h
  obtain ⟨v28, h⟩ := raw_binary h
  obtain ⟨cst_6, h⟩ := raw_nullary h
  obtain ⟨v29, h⟩ := raw_unary h
  obtain ⟨v30, h⟩ := raw_binary h
  obtain ⟨v31, h⟩ := raw_binary h
  obtain ⟨cst_7, h⟩ := raw_nullary h
  obtain ⟨v32, h⟩ := raw_unary h
  obtain ⟨v33, h⟩ := raw_binary h
  obtain ⟨v34, h⟩ := raw_binary h
  obtain ⟨cst_8, h⟩ := raw_nullary h
  obtain ⟨v35, h⟩ := raw_unary h
  obtain ⟨v36, h⟩ := raw_binary h
  obtain ⟨v37, h⟩ := raw_binary h
  obtain ⟨cst_9, h⟩ := raw_nullary h
  obtain ⟨v38, h⟩ := raw_unary h
  obtain ⟨v39, h⟩ := raw_binary h
  obtain ⟨v40, h⟩ := raw_binary h
  obtain ⟨cst_10, h⟩ := raw_nullary h
  obtain ⟨v41, h⟩ := raw_unary h
  obtain ⟨v42, h⟩ := raw_binary h
  obtain ⟨v43, h⟩ := raw_binary h
  obtain ⟨cst_11, h⟩ := raw_nullary h
  obtain ⟨v44, h⟩ := raw_unary h
  obtain ⟨v45, h⟩ := raw_binary h
  have e17 : (rd V (.of main_v17 : TRef sig ⟨S2, .i32⟩) : IVec S2 32) = concatenate S2 0
      [⟨S1, broadcastInDim S1 ![] bcast_S_S1 (Host.shrui (constantI S_ 32 42#32) (constantI S_ 32 32#32))⟩,
        ⟨S1, broadcastInDim S1 ![] bcast_S_S1 (andi (constantI S_ 32 42#32) (constantI S_ 32 4294967295#32))⟩]
      concatenates_S1_S1_S2_d0 := by
    show (V (Proc.devRef .tc main_v17) : IVec S2 32) = _
    rw [v17, v16, v15, v14, c_1, v13, v12, v11, c_0, c]
    rfl
  have e0 : (rd V (.of main_v17 : TRef sig ⟨S2, .i32⟩) : IVec S2 32) (ix1 0) = 0#32 := by
    rw [e17]
    clear * -
    pointwise
    decide
  have e1 : (rd V (.of main_v17 : TRef sig ⟨S2, .i32⟩) : IVec S2 32) (ix1 1) = 42#32 := by
    rw [e17]
    clear * -
    pointwise
    decide
  refine ⟨fun n e => ?_, fun n e => ?_, uniform_value cuniform e0 e1 cst cst_2, fun j => ?_, fun j => ?_, fun j => ?_,
    fun j => ?_⟩
  · show (V (Proc.devRef .tc main_v4) : S32768x64.Idx → EReal) (ix2 n e) = _
    rw [v4, v3, v2, v1, v0]
    exact affine_at _ _ _ n e
  · refine (softplus_value csoftplus n e).trans (congrArg softplus ?_)
    show (V (Proc.devRef .tc main_v9) : S32768x64.Idx → EReal) (ix2 n e) = _
    rw [v9, v8, v7, v6, v5]
    exact affine_at _ _ _ n e
  · show (V (Proc.devRef .tc main_v22) : S32768x64.Idx → EReal) j = _
    rw [v22, v21, v20, v19]
    rfl
  · show (V (Proc.devRef .tc main_v24) : S32768x64.Idx → BitVec 1) j = _
    rw [v24, v23, cst_3]
    rfl
  · show (V (Proc.devRef .tc main_v26) : S32768x64.Idx → EReal) j = _
    rw [v26, v25, cst_4]
    rfl
  · show (V (Proc.devRef .tc main_v45) : S32768x64.Idx → EReal) j = _
    rw [v45, v44, cst_11, v43, v42, v41, cst_10, v40, v39, v38, cst_9, v37, v36, v35, cst_8, v34, v33, v32, cst_7, v31,
      v30, v29, cst_6, v28, v27, cst_5]
    rfl

/-- What the second part of the program leaves. -/
theorem part1_at (h : Sat V (main_part1 (F := Ideal) 0)) (j : S32768x64.Idx) :
    grid V (.of main_v90) j
      = (lit 0x3FB504F3#32
          * (Scalar.select (Ideal.cmp .oeq (max (grid V (.of main_v18) j) (-grid V (.of main_v18) j)) (lit 0x3F800000#32))
            (lit 0x7F800000#32 * grid V (.of main_v18) j)
            (Scalar.select (flags V (.of main_v24) j)
                ((grid V (.of main_v45) j * grid V (.of main_v26) j + lit 0x3E7C8F63#32) * grid V (.of main_v26) j
                  + lit 0x3FC02E2F#32)
                (poly (Ideal.sqrt (grid V (.of main_v22) j) - lit 0x40400000#32) 0xB951F09B#32 tail)
              * grid V (.of main_v18) j) : EReal))
        * grid V (.of main_v10) j := by
  unfold main_part1 at h
  obtain ⟨v46, h⟩ := raw_binary h
  obtain ⟨cst_12, h⟩ := raw_nullary h
  obtain ⟨v47, h⟩ := raw_unary h
  obtain ⟨v48, h⟩ := raw_binary h
  obtain ⟨v49, h⟩ := raw_binary h
  obtain ⟨cst_13, h⟩ := raw_nullary h
  obtain ⟨v50, h⟩ := raw_unary h
  obtain ⟨v51, h⟩ := raw_binary h
  obtain ⟨v52, h⟩ := raw_unary h
  obtain ⟨cst_14, h⟩ := raw_nullary h
  obtain ⟨v53, h⟩ := raw_unary h
  obtain ⟨v54, h⟩ := raw_binary h
  obtain ⟨cst_15, h⟩ := raw_nullary h
  obtain ⟨v55, h⟩ := raw_unary h
  obtain ⟨v56, h⟩ := raw_binary h
  obtain ⟨cst_16, h⟩ := raw_nullary h
  obtain ⟨v57, h⟩ := raw_unary h
  obtain ⟨v58, h⟩ := raw_binary h
  obtain ⟨v59, h⟩ := raw_binary h
  obtain ⟨cst_17, h⟩ := raw_nullary h
  obtain ⟨v60, h⟩ := raw_unary h
  obtain ⟨v61, h⟩ := raw_binary h
  obtain ⟨v62, h⟩ := raw_binary h
  obtain ⟨cst_18, h⟩ := raw_nullary h
  obtain ⟨v63, h⟩ := raw_unary h
  obtain ⟨v64, h⟩ := raw_binary h
  obtain ⟨v65, h⟩ := raw_binary h
  obtain ⟨cst_19, h⟩ := raw_nullary h
  obtain ⟨v66, h⟩ := raw_unary h
  obtain ⟨v67, h⟩ := raw_binary h
  obtain ⟨v68, h⟩ := raw_binary h
  obtain ⟨cst_20, h⟩ := raw_nullary h
  obtain ⟨v69, h⟩ := raw_unary h
  obtain ⟨v70, h⟩ := raw_binary h
  obtain ⟨v71, h⟩ := raw_binary h
  obtain ⟨cst_21, h⟩ := raw_nullary h
  obtain ⟨v72, h⟩ := raw_unary h
  obtain ⟨v73, h⟩ := raw_binary h
  obtain ⟨v74, h⟩ := raw_binary h
  obtain ⟨cst_22, h⟩ := raw_nullary h
  obtain ⟨v75, h⟩ := raw_unary h
  obtain ⟨v76, h⟩ := raw_binary h
  obtain ⟨v77, h⟩ := raw_binary h
  obtain ⟨cst_23, h⟩ := raw_nullary h
  obtain ⟨v78, h⟩ := raw_unary h
  obtain ⟨v79, h⟩ := raw_binary h
  obtain ⟨cwhere0, h⟩ := (sat_bind V RefLine.where_line0.straight _).mp h
  obtain ⟨v81, h⟩ := raw_unary h
  obtain ⟨cst_24, h⟩ := raw_nullary h
  obtain ⟨v82, h⟩ := raw_unary h
  obtain ⟨v83, h⟩ := raw_binary h
  obtain ⟨cst_25, h⟩ := raw_nullary h
  obtain ⟨v84, h⟩ := raw_unary h
  obtain ⟨v85, h⟩ := raw_binary h
  obtain ⟨v86, h⟩ := raw_binary h
  obtain ⟨cwhere1, h⟩ := (sat_bind V RefLine.where_line1.straight _).mp h
  obtain ⟨cst_26, h⟩ := raw_nullary h
  obtain ⟨v88, h⟩ := raw_unary h
  obtain ⟨v89, h⟩ := raw_binary h
  obtain ⟨v90, h⟩ := raw_binary h
  have e51 : grid V (.of main_v51) j = (grid V (.of main_v45) j * grid V (.of main_v26) j + lit 0x3E7C8F63#32)
      * grid V (.of main_v26) j + lit 0x3FC02E2F#32 := by
    show (V (Proc.devRef .tc main_v51) : S32768x64.Idx → EReal) j = _
    rw [v51, v50, cst_13, v49, v48, v47, cst_12, v46]
    rfl
  have e79 : grid V (.of main_v79) j
      = poly (Ideal.sqrt (grid V (.of main_v22) j) - lit 0x40400000#32) 0xB951F09B#32 tail := by
    show (V (Proc.devRef .tc main_v79) : S32768x64.Idx → EReal) j = _
    rw [v79, v78, cst_23, v77, v76, v75, cst_22, v74, v73, v72, cst_21, v71, v70, v69, cst_20, v68, v67, v66, cst_19,
      v65, v64, v63, cst_18, v62, v61, v60, cst_17, v59, v58, v57, cst_16, v56, v55, cst_15, v54, v53, cst_14, v52]
    rfl
  have e80 : grid V (.of main_v80) j
      = Scalar.select (flags V (.of main_v24) j) (grid V (.of main_v51) j) (grid V (.of main_v79) j) :=
    where_value cwhere0 j
  have e83 : flags V (.of main_v83) j
      = Ideal.cmp .oeq (max (grid V (.of main_v18) j) (-grid V (.of main_v18) j)) (lit 0x3F800000#32) := by
    show (V (Proc.devRef .tc main_v83) : S32768x64.Idx → BitVec 1) j = _
    rw [v83, v82, cst_24, v81]
    rfl
  have e85 : grid V (.of main_v85) j = lit 0x7F800000#32 * grid V (.of main_v18) j := by
    show (V (Proc.devRef .tc main_v85) : S32768x64.Idx → EReal) j = _
    rw [v85, v84, cst_25]
    rfl
  have e86 : grid V (.of main_v86) j = grid V (.of main_v80) j * grid V (.of main_v18) j := by
    show (V (Proc.devRef .tc main_v86) : S32768x64.Idx → EReal) j = _
    rw [v86]
    rfl
  have e87 : grid V (.of main_v87) j
      = Scalar.select (flags V (.of main_v83) j) (grid V (.of main_v85) j) (grid V (.of main_v86) j) :=
    where_value cwhere1 j
  have e90 : grid V (.of main_v90) j = lit 0x3FB504F3#32 * grid V (.of main_v87) j * grid V (.of main_v10) j := by
    show (V (Proc.devRef .tc main_v90) : S32768x64.Idx → EReal) j = _
    rw [v90, v89, v88, cst_26]
    rfl
  rw [e90, e87, e86, e85, e83, e80, e79, e51]

/-- The choice by a decided proposition. -/
theorem select_decide {p : Prop} [Decidable p] {α : Type} (a b : α) :
    Scalar.select (BitVec.ofBool (decide p)) a b = if p then a else b := by
  by_cases h : p
  · rw [decide_eq_true h, if_pos h]; rfl
  · rw [decide_eq_false h, if_neg h]; rfl

/-- The inverse error function with its choices as selections. -/
theorem erfInv_eq (u : EReal) : erfInv u
    = Scalar.select (Ideal.cmp .oeq (max u (-u)) (lit 0x3F800000#32)) (lit 0x7F800000#32 * u)
        (Scalar.select (Ideal.cmp .olt (-Ideal.log1p (-(u * u))) (lit 0x40A00000#32))
            (poly (-Ideal.log1p (-(u * u)) - lit 0x40200000#32) 0x32F16588#32 centre)
            (poly (Ideal.sqrt (-Ideal.log1p (-(u * u))) - lit 0x40400000#32) 0xB951F09B#32 tail) * u) := by
  unfold erfInv factor Ideal.cmp
  rw [select_decide, select_decide]

/-- The noise as the program computes it, from the drawn number `u` and the softplus `t`. -/
theorem noise_eq (u t : EReal) :
    lit 0x3FB504F3#32
        * (Scalar.select (Ideal.cmp .oeq (max u (-u)) (lit 0x3F800000#32)) (lit 0x7F800000#32 * u)
          (Scalar.select (Ideal.cmp .olt (-Ideal.log1p (-(u * u))) (lit 0x40A00000#32))
              ((poly (-Ideal.log1p (-(u * u)) - lit 0x40200000#32) 0x32F16588#32
                    [0x34B84B36#32, 0xB66C7357#32, 0xB6935AC1#32, 0x396532DB#32, 0xBAA45408#32, 0xBB88E4EF#32]
                  * (-Ideal.log1p (-(u * u)) - lit 0x40200000#32) + lit 0x3E7C8F63#32)
                * (-Ideal.log1p (-(u * u)) - lit 0x40200000#32) + lit 0x3FC02E2F#32)
              (poly (Ideal.sqrt (-Ideal.log1p (-(u * u))) - lit 0x40400000#32) 0xB951F09B#32 tail)
            * u) : EReal)
        * t = lit 0x3FB504F3#32 * erfInv u * t := by
  rw [erfInv_eq]
  rfl

/-- The first two parts of the program leave the noise of an entry, made from its drawn number and its softplus. -/
theorem noise_of (h₀ : Sat V (main_part0 (F := Ideal) 0)) (h₁ : Sat V (main_part1 (F := Ideal) 0))
    (j : S32768x64.Idx) (u t : EReal) (hu : grid V (.of main_v18) j = u) (ht : grid V (.of main_v10) j = t) :
    grid V (.of main_v90) j = lit 0x3FB504F3#32 * erfInv u * t := by
  obtain ⟨-, -, -, e22, e24, e26, e45⟩ := part0_at h₀
  rw [part1_at h₁, e24, e45, e26, e22, hu, ht, noise_eq]

/-- The first two parts of the program leave the noise of an entry. -/
theorem noise_at (h₀ : Sat V (main_part0 (F := Ideal) 0)) (h₁ : Sat V (main_part1 (F := Ideal) 0)) (n : Fin 32768)
    (e : Fin 64) :
    grid V (.of main_v90) (ix2 n e) = normal (word (BitVec.ofNat 32 (64 * n + e)))
      * softplus (affine (tokens V n) (weights V (.of main_arg3) e) (bias V (.of main_arg4) e)) := by
  obtain ⟨-, e10, e18, -⟩ := part0_at h₀
  rw [normal]
  exact noise_of h₀ h₁ _ _ _ (e18 n e) (e10 n e)

/-- The places that the scatter writes: the row's number and the chosen expert's. -/
theorem places_at (idx : IVec S32768x1 32) (b : Fin 32768 → Fin 64)
    (hb : ∀ n, idx (ix2 n (0 : Fin 1)) = BitVec.ofNat 32 (b n).val) (places : IVec S32768x1x2 32)
    (hp : places = concatenate S32768x1x2 2
      [⟨S32768x1x1, broadcastInDim S32768x1x1 ![0, 1] bcast_S32768x1_S32768x1x1_0_1
          (select
            (cmpi .slt (broadcastInDim S32768x1 ![0] bcast_S32768_S32768x1_0 (iotaInDim S32768 32 0))
              (broadcastInDim S32768x1 ![] bcast_S_S32768x1 (constantI S_ 32 0#32)))
            (addi (broadcastInDim S32768x1 ![0] bcast_S32768_S32768x1_0 (iotaInDim S32768 32 0))
              (broadcastInDim S32768x1 ![] bcast_S_S32768x1 (constantI S_ 32 32768#32)))
            (broadcastInDim S32768x1 ![0] bcast_S32768_S32768x1_0 (iotaInDim S32768 32 0)))⟩,
        ⟨S32768x1x1, broadcastInDim S32768x1x1 ![0, 1] bcast_S32768x1_S32768x1x1_0_1
          (select (cmpi .slt idx (broadcastInDim S32768x1 ![] bcast_S_S32768x1 (constantI S_ 32 0#32)))
            (addi idx (broadcastInDim S32768x1 ![] bcast_S_S32768x1 (constantI S_ 32 64#32))) idx)⟩]
      concatenates_S32768x1x1_S32768x1x1_S32768x1x2_d2) (n : Fin 32768) :
    places (ix3 n (0 : Fin 1) (0 : Fin 2)) = BitVec.ofNat 32 n.val
      ∧ places (ix3 n (0 : Fin 1) (1 : Fin 2)) = BitVec.ofNat 32 (b n).val := by
  have hn := n.isLt
  have hbn := (b n).isLt
  rw [hp]
  constructor
  · pointwise
    exact Routing.wrap_of_lt _ _ (by rw [BitVec.toNat_ofNat]; omega)
  · pointwise
    rw [hb]
    exact Routing.wrap_of_lt _ _ (by rw [BitVec.toNat_ofNat]; omega)

/-- The greatest entry of a row and the bound `z`. -/
theorem greatest_at (x : S32768x64.Idx → EReal) (z : S_.Idx → EReal) (n : Fin 32768) :
    (Host.reduce (FloatOps.maximumf (F := Ideal) (φ := .f32)) x z reducesTo_S32768x64_S32768_d1 h_S_ (ix1 n) : EReal)
      = Finset.fold max (z (Shape.Idx.first (s := S_) h_S_)) (fun e => x (ix2 n e)) Finset.univ := by
  pointwise

/-- The greater of a vector's entry and the bound `z`. -/
theorem bounded_at (x : S32768.Idx → EReal) (z : S_.Idx → EReal) (n : Fin 32768) :
    (maximumf (F := Ideal) (φ := .f32) (broadcastInDim S32768 ![] bcast_S_S32768 z) x (ix1 n) : EReal)
      = max (z ix0) (x (ix1 n)) := by
  pointwise

/-- The softmax of a block whose rows have one real entry each, −∞ elsewhere. -/
theorem softmax_at (x : S32768x64.Idx → EReal) (n : Fin 32768) (b : Fin 64) (r : ℝ)
    (hx : ∀ e, x (ix2 n e) = if e = b then (r : EReal) else ⊥) (m : S32768.Idx → EReal)
    (hm : m = maximumf (F := Ideal) (φ := .f32)
      (broadcastInDim S32768 ![] bcast_S_S32768 (constant (F := Ideal) S_ .f32 0xFF800000#32))
      (Host.reduce (FloatOps.maximumf (F := Ideal) (φ := .f32)) x (constant (F := Ideal) S_ .f32 0xFF800000#32)
        reducesTo_S32768x64_S32768_d1 h_S_))
    (y : S32768x64.Idx → EReal)
    (hy : y = Host.exp (F := Ideal) (φ := .f32) (subf (F := Ideal) (φ := .f32) x
      (broadcastInDim S32768x64 ![0, 1] bcast_S32768x1_S32768x64_0_1
        (broadcastInDim S32768x1 ![0] bcast_S32768_S32768x1_0 m)))) (e : Fin 64) :
    (Host.divf (F := Ideal) (φ := .f32) y (broadcastInDim S32768x64 ![0, 1] bcast_S32768x1_S32768x64_0_1
      (broadcastInDim S32768x1 ![0] bcast_S32768_S32768x1_0
        (Host.reduceAdd (F := Ideal) (φ := .f32) y (constant (F := Ideal) S_ .f32 0x00000000#32)
          reducesTo_S32768x64_S32768_d1 h_S_))) (ix2 n e) : EReal) = if e = b then 1 else 0 := by
  have hmn : m (ix1 n) = r := by
    have hz : ∀ k, (constant (F := Ideal) S_ .f32 0xFF800000#32 : S_.Idx → EReal) k = ⊥ := fun _ => KernelSelect.lit_bot
    rw [hm, bounded_at, greatest_at, hz, hz]
    simp only [hx]
    rw [RefSelect.greatest_single, max_eq_right bot_le]
  have hyn : ∀ e, y (ix2 n e) = Ideal.exp ((if e = b then (r : EReal) else ⊥) - r) := by
    intro e
    rw [hy, ← hx, ← hmn]
    pointwise
  pointwise
  simp only [hyn]
  exact RefSelect.softmax_single b e r

/-- What the third part of the program leaves: the first greatest noisy logit's expert and, if that logit is real,
    probability 1 for it alone. -/
theorem part2_at (h : Sat V (main_part2 (F := Ideal) 0)) (row : Fin 32768 → Fin 64 → EReal)
    (hrow : ∀ n e, grid V (.of main_v4) (ix2 n e) + grid V (.of main_v90) (ix2 n e) = row n e) (n : Fin 32768) :
    (rd V (.of main_indices : TRef sig ⟨S32768x1, .i32⟩) : IVec S32768x1 32) (ix2 n (0 : Fin 1))
        = BitVec.ofNat 32 (best (row n))
      ∧ ∀ r : ℝ, row n (best (row n)) = r → ∀ e,
        grid V (.of main_v119) (ix2 n e) = if e = best (row n) then 1 else 0 := by
  unfold main_part2 at h
  obtain ⟨v91, h⟩ := raw_binary h
  obtain ⟨values, h⟩ := raw_unary h
  obtain ⟨indices, h⟩ := raw_unary h
  obtain ⟨v92, h⟩ := raw_nullary h
  obtain ⟨v93, h⟩ := raw_unary h
  obtain ⟨cst_27, h⟩ := raw_nullary h
  obtain ⟨v94, h⟩ := raw_unary h
  obtain ⟨c_28, h⟩ := raw_nullary h
  obtain ⟨v95, h⟩ := raw_unary h
  obtain ⟨v96, h⟩ := raw_binary h
  obtain ⟨c_29, h⟩ := raw_nullary h
  obtain ⟨v97, h⟩ := raw_unary h
  obtain ⟨v98, h⟩ := raw_binary h
  obtain ⟨v99, h⟩ := raw_ternary h
  obtain ⟨c_30, h⟩ := raw_nullary h
  obtain ⟨v100, h⟩ := raw_unary h
  obtain ⟨v101, h⟩ := raw_binary h
  obtain ⟨c_31, h⟩ := raw_nullary h
  obtain ⟨v102, h⟩ := raw_unary h
  obtain ⟨v103, h⟩ := raw_binary h
  obtain ⟨v104, h⟩ := raw_ternary h
  obtain ⟨v105, h⟩ := raw_unary h
  obtain ⟨v106, h⟩ := raw_unary h
  obtain ⟨v107, h⟩ := raw_binary h
  obtain ⟨v108, h⟩ := raw_ternary h
  obtain ⟨cst_32, h⟩ := raw_nullary h
  obtain ⟨v109, h⟩ := raw_binary h
  obtain ⟨cst_33, h⟩ := raw_nullary h
  obtain ⟨v110, h⟩ := raw_unary h
  obtain ⟨v111, h⟩ := raw_binary h
  obtain ⟨v112, h⟩ := raw_unary h
  obtain ⟨v113, h⟩ := raw_unary h
  obtain ⟨v114, h⟩ := raw_binary h
  obtain ⟨v115, h⟩ := raw_unary h
  obtain ⟨cst_34, h⟩ := raw_nullary h
  obtain ⟨v116, h⟩ := raw_binary h
  obtain ⟨v117, h⟩ := raw_unary h
  obtain ⟨v118, h⟩ := raw_unary h
  obtain ⟨v119, h⟩ := raw_binary h
  have e91 : ∀ n, (fun e => (V (Proc.devRef .tc main_v91) : S32768x64.Idx → EReal) (ix2 n e)) = row n := by
    intro n
    funext e
    rw [← hrow, v91]
    rfl
  have ev : ∀ n, (V (Proc.devRef .tc main_values) : S32768x1.Idx → EReal) (ix2 n (0 : Fin 1))
      = row n (best (row n)) := by
    intro n
    rw [values]
    refine (RefSelect.topk_eq _ n).1.trans ?_
    rw [e91]
    exact congrFun (e91 n) _
  have ei : ∀ n, (V (Proc.devRef .tc main_indices) : IVec S32768x1 32) (ix2 n (0 : Fin 1))
      = BitVec.ofNat 32 (best (row n)) := by
    intro n
    rw [indices]
    refine (RefSelect.topk_eq _ n).2.trans ?_
    rw [e91]
  have ep := places_at (V (Proc.devRef .tc main_indices) : IVec S32768x1 32) (fun n => best (row n)) ei
    (V (Proc.devRef .tc main_v107)) (by
      rw [v107, v106, v105, v104, v103, v102, c_31, v101, v100, c_30, v99, v98, v97, c_29, v96, v95, c_28, v93, v92])
  refine ⟨ei n, fun r hr e => ?_⟩
  have e108 : ∀ e, (V (Proc.devRef .tc main_v108) : S32768x64.Idx → EReal) (ix2 n e)
      = if e = best (row n) then (r : EReal) else ⊥ := by
    intro e
    rw [v108]
    refine (RefSelect.placed (V (Proc.devRef .tc main_values)) (V (Proc.devRef .tc main_v107)) (fun n => best (row n))
      (fun n => (ep n).1) (fun n => (ep n).2) _ n e).trans ?_
    rw [ev, hr, v94, cst_27]
    exact congrArg (ite (e = best (row n)) (r : EReal)) KernelSelect.lit_bot
  have e119 := softmax_at (V (Proc.devRef .tc main_v108)) n (best (row n)) r e108 (V (Proc.devRef .tc main_v111))
    (by rw [v111, v110, cst_33, v109, cst_32]) (V (Proc.devRef .tc main_v115)) (by rw [v115, v114, v113, v112]) e
  show (V (Proc.devRef .tc main_v119) : S32768x64.Idx → EReal) (ix2 n e) = _
  rw [v119, v118, v117, v116, cst_34]
  exact e119

/-- The rows of noisy logits of what the program is given. -/
abbrev rows (V : Valuation τ sig (Elt Ideal)) (n : Fin 32768) (e : Fin 64) : EReal :=
  tokenRow (tokens V) (weights V (.of main_arg1)) (bias V (.of main_arg2)) (weights V (.of main_arg3))
    (bias V (.of main_arg4)) n e

/-- The program's two results, from the rows of noisy logits. -/
theorem results_at (h : Sat V (main (F := Ideal) 0)) (n : Fin 32768) :
    (rd V (.of main_indices : TRef sig ⟨S32768x1, .i32⟩) : IVec S32768x1 32) (ix2 n (0 : Fin 1))
        = BitVec.ofNat 32 (best (rows V n))
      ∧ ∀ r : ℝ, rows V n (best (rows V n)) = r → ∀ e,
        grid V (.of main_v119) (ix2 n e) = if e = best (rows V n) then 1 else 0 := by
  obtain ⟨h₀, h⟩ := (sat_bind V RefLine.main_line0.straight _).mp h
  obtain ⟨h₁, h₂⟩ := (sat_bind V RefLine.main_line1.straight _).mp h
  refine part2_at h₂ (rows V) (fun n e => ?_) n
  rw [(part0_at h₀).1, noise_at h₀ h₁, rows, tokenRow, noisy]

end Cert.RefMain

end
-- ==== Proof.Agree.lean ====
/-
  The reference's results from real arguments, at contents that satisfy the equation of every line.
-/
module

public import proofs.«01_k».proof.Proof.Arguments
public import proofs.«01_k».proof.Proof.KernelValue
public import proofs.«01_k».proof.Proof.RefMain
public import proofs.«01_k».proof.Proof.Gen.ReferenceIdeal

@[expose] public section

set_option maxRecDepth 16384

noncomputable section

namespace Cert.Agree

open Idealize.ShloMosaic Idealize.ShloMosaic.TcCoe Cert.Equations Cert.Spec Cert.Finite Cert.RefMain Cert.KernelValue

/-- From real arguments the kernel's noisy logits are real. -/
theorem logits_real (m : (ℓ : Loc Cert.KernelIdeal.nD Cert.KernelIdeal.τ Cert.KernelIdeal.sig) → Buf (Elt Ideal) ℓ)
    (c : Dev Cert.KernelIdeal.nD) [Cert.Pre_finite_arguments.Facts]
    (h : Cert.Pre_finite_arguments.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
        = fun _ => 1#1) (n : Fin 32768) (e : Fin 64) : IsReal (logits m c n e) := by
  obtain ⟨h0, h1, h2, h3, h4⟩ := Cert.Arguments.reals_of_pre h
  exact tokenRow_real (fun n k => h0 _) (fun e k => h1 _) (fun e => h2 _) (fun e k => h3 _) (fun e => h4 _) n e

variable {V : Valuation Cert.ReferenceIdeal.τ Cert.ReferenceIdeal.sig (Elt Ideal)}
  {m : (ℓ : Loc Cert.KernelIdeal.nD Cert.KernelIdeal.τ Cert.KernelIdeal.sig) → Buf (Elt Ideal) ℓ} {c : Dev Cert.KernelIdeal.nD}

/-- Equal arguments give equal noisy logits. -/
theorem rows_eq (h0 : V (Proc.devRef .tc Cert.ReferenceIdeal.main_arg0) = m (c.tc.loc Cert.KernelIdeal.main_arg0))
    (h1 : V (Proc.devRef .tc Cert.ReferenceIdeal.main_arg1) = m (c.tc.loc Cert.KernelIdeal.main_arg1))
    (h2 : V (Proc.devRef .tc Cert.ReferenceIdeal.main_arg2) = m (c.tc.loc Cert.KernelIdeal.main_arg2))
    (h3 : V (Proc.devRef .tc Cert.ReferenceIdeal.main_arg3) = m (c.tc.loc Cert.KernelIdeal.main_arg3))
    (h4 : V (Proc.devRef .tc Cert.ReferenceIdeal.main_arg4) = m (c.tc.loc Cert.KernelIdeal.main_arg4)) (n : Fin 32768) :
    rows V n = logits m c n := by
  have e0 : tokens V = fun n k => m (c.tc.loc Cert.KernelIdeal.main_arg0) (ix2 n k) := funext fun n => funext fun k => congrFun h0 (ix2 n k)
  have e1 : weights V (.of Cert.ReferenceIdeal.main_arg1) = fun e k => m (c.tc.loc Cert.KernelIdeal.main_arg1) (ix2 e k) :=
    funext fun e => funext fun k => congrFun h1 (ix2 e k)
  have e2 : bias V (.of Cert.ReferenceIdeal.main_arg2) = fun e => m (c.tc.loc Cert.KernelIdeal.main_arg2) (ix1 e) :=
    funext fun e => congrFun h2 (ix1 e)
  have e3 : weights V (.of Cert.ReferenceIdeal.main_arg3) = fun e k => m (c.tc.loc Cert.KernelIdeal.main_arg3) (ix2 e k) :=
    funext fun e => funext fun k => congrFun h3 (ix2 e k)
  have e4 : bias V (.of Cert.ReferenceIdeal.main_arg4) = fun e => m (c.tc.loc Cert.KernelIdeal.main_arg4) (ix1 e) :=
    funext fun e => congrFun h4 (ix1 e)
  funext e
  rw [rows, e0, e1, e2, e3, e4, logits]

/-- At contents that satisfy every line, with noisy logits equal to the kernel's and these real, the two results are the kernel's. -/
theorem results_eq (hs : Sat V (Cert.ReferenceIdeal.main (F := Ideal) 0)) (hr : ∀ n, rows V n = logits m c n)
    (hf : ∀ n e, IsReal (logits m c n e)) :
    (V (Proc.devRef .tc Cert.ReferenceIdeal.main_v119) : FVec Ideal Cert.ReferenceIdeal.S32768x64 .f32)
        = transpose Cert.KernelIdeal.S32768x64 [1, 0] (Cert.KernelIdeal.Value.reg_main_v0_0 m c)
            Cert.KernelIdeal.Gen.transposes_S64x32768_S32768x64_1_0
      ∧ (V (Proc.devRef .tc Cert.ReferenceIdeal.main_indices) : IVec Cert.ReferenceIdeal.S32768x1 32)
        = transpose Cert.KernelIdeal.S32768x1 [1, 0] (Cert.KernelIdeal.Value.reg_main_v0_1 m c)
            Cert.KernelIdeal.Gen.transposes_S1x32768_S32768x1_1_0 := by
  constructor
  · funext k
    idx_vars k
    rw [probs_result]
    obtain ⟨r, hb⟩ := hf k0 (best (logits m c k0))
    rw [← hr] at hb ⊢
    exact (results_at hs k0).2 r hb k1
  · funext k
    idx_vars k
    obtain rfl : k1 = 0 := Subsingleton.elim _ _
    rw [index_result, ← hr]
    exact (results_at hs k0).1

end Cert.Agree

end
-- ==== Proof.lean ====
/-
  The proof of `Cert.Claim`: every program runs and leaves its arguments as they were; the kernel in extended reals is the
  kernel in floats with its operations read there; and from finite arguments it leaves the reference's two results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.RefRun
public import proofs.«01_k».proof.Proof.Agree
public import Idealize.ShloMosaic.Lib.Claim

@[expose] public section

noncomputable section

namespace Cert.Proof

open Idealize.ShloMosaic Idealize.ShloMosaic.TcCoe Idealize.SL.Sem

/-- From finite arguments the kernel and the reference end with the same two results. -/
theorem algebraic : Cert.algebraic_KernelIdeal_ReferenceIdeal_pre_finite_arguments
    (hKernelIdeal := Cert.KernelIdeal.Gen.facts) (hReferenceIdeal := Cert.ReferenceIdeal.Gen.facts)
    (hPre_finite_arguments := Cert.Arguments.facts) := by
  intro m g m' g' hpre hargs
  refine ⟨_, _, Cert.KernelIdeal.Value.run m g, (θ_run _ _ _).mono (fun r h c => ?_) (Cert.RefRun.main_run m' g')⟩
  obtain ⟨V, hV, hm, hs⟩ := h.1 c
  have hb : ∀ b : Ref Cert.ReferenceIdeal.sig .tc, Cert.Equations.Below 5 b →
      r.2.mem ((c.tc : Thread Cert.ReferenceIdeal.nD Cert.ReferenceIdeal.τ).loc b)
        = m' ((c.tc : Thread Cert.ReferenceIdeal.nD Cert.ReferenceIdeal.τ).loc b) :=
    fun b hb => (hV b).trans (hm b hb)
  obtain ⟨a0, a1, a2, a3, a4⟩ := hargs c
  have hr := Cert.Agree.rows_eq (V := V) (m := m) (c := c) ((hm _ ⟨rfl, by decide⟩).trans a0) ((hm _ ⟨rfl, by decide⟩).trans a1)
    ((hm _ ⟨rfl, by decide⟩).trans a2) ((hm _ ⟨rfl, by decide⟩).trans a3) ((hm _ ⟨rfl, by decide⟩).trans a4)
  letI := Cert.Arguments.facts
  obtain ⟨p0, p1⟩ := Cert.Agree.results_eq hs hr (Cert.Agree.logits_real m c (hpre c))
  exact ⟨(hV _).trans p0, (hV _).trans p1, hb _ ⟨rfl, by decide⟩, hb _ ⟨rfl, by decide⟩, hb _ ⟨rfl, by decide⟩,
    hb _ ⟨rfl, by decide⟩, hb _ ⟨rfl, by decide⟩⟩

/-- Everything that is claimed. -/
theorem claim : Cert.Claim :=
  ⟨Cert.Kernel.Gen.facts, Cert.KernelIdeal.Gen.facts, Cert.ReferenceIdeal.Gen.facts, Cert.Arguments.facts,
    fun m g _ => Cert.Kernel.Gen.frame m g, fun m g _ => Cert.KernelIdeal.Gen.frame m g,
    fun m g _ => Cert.KernelIdeal.Gen.frame m g, fun m g _ => Cert.RefRun.main_frame m g,
    fun m g _ => Cert.RefRun.main_frame m g, trivial, algebraic⟩

end Cert.Proof

end
